-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_no_bias [hPre_finite_no_bias : Cert.Pre_finite_no_bias.Facts] (m : (ℓ : Loc Cert.KernelIdeal.nD Cert.KernelIdeal.τ Cert.KernelIdeal.sig) → Buf (Elt Ideal) ℓ) : Prop :=
  ∀ c : Dev Cert.KernelIdeal.nD,
    (Cert.Pre_finite_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_no_bias [hPre_finite_no_bias : Cert.Pre_finite_no_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_no_bias [hKernelIdeal : Cert.KernelIdeal.Facts] [hPre_finite_no_bias : Cert.Pre_finite_no_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_no_bias m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_no_bias [hReferenceIdeal : Cert.ReferenceIdeal.Facts] [hPre_finite_no_bias : Cert.Pre_finite_no_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_no_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_no_bias [hKernelIdeal : Cert.KernelIdeal.Facts] [hReferenceIdeal : Cert.ReferenceIdeal.Facts] [hPre_finite_no_bias : Cert.Pre_finite_no_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_no_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_values) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_no_bias : Cert.Pre_finite_no_bias.Facts),
    quiescent_Kernel (hKernel := hKernel)
    ∧ quiescent_KernelIdeal (hKernelIdeal := hKernelIdeal)
    ∧ quiescent_KernelIdeal_pre_finite_no_bias (hKernelIdeal := hKernelIdeal) (hPre_finite_no_bias := hPre_finite_no_bias)
    ∧ quiescent_ReferenceIdeal (hReferenceIdeal := hReferenceIdeal)
    ∧ quiescent_ReferenceIdeal_pre_finite_no_bias (hReferenceIdeal := hReferenceIdeal) (hPre_finite_no_bias := hPre_finite_no_bias)
    ∧ preserves_Kernel_KernelIdeal
    ∧ algebraic_KernelIdeal_ReferenceIdeal_pre_finite_no_bias (hKernelIdeal := hKernelIdeal) (hReferenceIdeal := hReferenceIdeal) (hPre_finite_no_bias := hPre_finite_no_bias)
-- ==== Pre_finite_no_bias.lean ====
abbrev S8192x2048 : Shape := ⟨2, ![8192, 2048]⟩
abbrev S2048x16 : Shape := ⟨2, ![2048, 16]⟩
abbrev S16 : Shape := ⟨1, ![16]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x16 : S_.BroadcastsInDim S2048x16 (![] : Fin 0 → Fin S2048x16.rank)
  reducesTo_S2048x16_S_d0_1 : S2048x16.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S8192x2048 .f32) (main_arg1 : FVec F S2048x16 .f32) (main_arg2 : FVec F S16 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x16 .f32 := Host.absf main_arg1
  let main_cst_0 : FVec F S_ .f32 := constant S_ .f32 0x7F800000#32
  let main_v5 : FVec F S2048x16 .f32 := broadcastInDim S2048x16 ![] bcast_S_S2048x16 main_cst_0
  let main_v6 : IVec S2048x16 1 := cmpf .olt main_v4 main_v5
  let main_c_1 : IVec S_ 1 := constantI S_ 1 1#1
  let main_v7 : IVec S_ 1 := (fun x v => Host.reduce IntOp.andi x v reducesTo_S2048x16_S_d0_1 h_S_) main_v6 main_c_1
  let main_v8 : IVec S_ 1 := andi main_v3 main_v7
  let main_cst_2 : FVec F S_ .f32 := constant S_ .f32 0x00000000#32
  let main_v9 : FVec F S16 .f32 := broadcastInDim S16 ![] bcast_S_S16 main_cst_2
  let main_v10 : IVec S16 1 := cmpf .oeq main_arg2 main_v9
  let main_c_3 : IVec S_ 1 := constantI S_ 1 1#1
  let main_v11 : IVec S_ 1 := (fun x v => Host.reduce IntOp.andi x v reducesTo_S16_S_d0 h_S_) main_v10 main_c_3
  let main_v12 : IVec S_ 1 := andi main_v8 main_v11
  main_v12
-- ==== Kernel.lean ====
abbrev S8192x2048 : Shape := ⟨2, ![8192, 2048]⟩
abbrev S2048x16 : Shape := ⟨2, ![2048, 16]⟩
abbrev S16 : Shape := ⟨1, ![16]⟩
abbrev S2x8192 : Shape := ⟨2, ![2, 8192]⟩
abbrev S1x16 : Shape := ⟨2, ![1, 16]⟩
abbrev S1024x2048 : Shape := ⟨2, ![1024, 2048]⟩
abbrev S2x1024 : Shape := ⟨2, ![2, 1024]⟩
abbrev S512x2048 : Shape := ⟨2, ![512, 2048]⟩
abbrev S512x16 : Shape := ⟨2, ![512, 16]⟩
abbrev S16x512 : Shape := ⟨2, ![16, 512]⟩
abbrev S512 : Shape := ⟨1, ![512]⟩
abbrev S1x512 : Shape := ⟨2, ![1, 512]⟩
abbrev S2x512 : Shape := ⟨2, ![2, 512]⟩
abbrev S16x1 : Shape := ⟨2, ![16, 1]⟩
abbrev S8192x2 : Shape := ⟨2, ![8192, 2]⟩

abbrev nBuf : Space → Nat
  | .hbm => 9
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x16, .f32⟩
  | .hbm, ⟨2, _⟩ => ⟨S16, .f32⟩
  | .hbm, ⟨3, _⟩ => ⟨S2x8192, .i32⟩
  | .hbm, ⟨4, _⟩ => ⟨S2x8192, .f32⟩
  | .hbm, ⟨5, _⟩ => ⟨S1x16, .f32⟩
  | .hbm, ⟨6, _⟩ => ⟨S8192x2, .i32⟩
  | .hbm, ⟨7, _⟩ => ⟨S8192x2, .f32⟩
  | .hbm, ⟨8, _⟩ => ⟨S16, .f32⟩
  | .local _ .vmem, ⟨0, _⟩ => ⟨S1024x2048, .f32⟩
  | .local _ .vmem, ⟨1, _⟩ => ⟨S1024x2048, .f32⟩
  | .local _ .vmem, ⟨2, _⟩ => ⟨S2048x16, .f32⟩
  | .local _ .vmem, ⟨3, _⟩ => ⟨S2x1024, .i32⟩
  | .local _ .vmem, ⟨4, _⟩ => ⟨S2x1024, .i32⟩
  | .local _ .vmem, ⟨5, _⟩ => ⟨S2x1024, .f32⟩
  | .local _ .vmem, ⟨6, _⟩ => ⟨S2x1024, .f32⟩
  | .local _ .vmem, ⟨7, _⟩ => ⟨S1x16, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8192x2048 : Shape := ⟨2, ![8192, 2048]⟩
abbrev S2048x16 : Shape := ⟨2, ![2048, 16]⟩
abbrev S16 : Shape := ⟨1, ![16]⟩
abbrev S8192x16 : Shape := ⟨2, ![8192, 16]⟩
abbrev S1x16 : Shape := ⟨2, ![1, 16]⟩
abbrev S_ : Shape := ⟨0, ![]⟩
abbrev S8192 : Shape := ⟨1, ![8192]⟩
abbrev S8192x1 : Shape := ⟨2, ![8192, 1]⟩
abbrev S8192x2 : Shape := ⟨2, ![8192, 2]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x16, .f32⟩
  | .hbm, ⟨2, _⟩ => ⟨S16, .f32⟩
  | .hbm, ⟨3, _⟩ => ⟨S8192x16, .f32⟩
  | .hbm, ⟨4, _⟩ => ⟨S1x16, .f32⟩
  | .hbm, ⟨5, _⟩ => ⟨S8192x16, .f32⟩
  | .hbm, ⟨6, _⟩ => ⟨S8192x16, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192x1, .f32⟩
  | .hbm, ⟨13, _⟩ => ⟨S8192x16, .f32⟩
  | .hbm, ⟨14, _⟩ => ⟨S8192x16, .f32⟩
  | .hbm, ⟨15, _⟩ => ⟨S8192x16, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S8192x16, .f32⟩
  | .hbm, ⟨20, _⟩ => ⟨S8192x16, .f32⟩
  | .hbm, ⟨21, _⟩ => ⟨S8192x2, .f32⟩
  | .hbm, ⟨22, _⟩ => ⟨S8192x2, .i32⟩
  | .hbm, ⟨23, _⟩ => ⟨S_, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_values : Ref sig .tc := ⟨.hbm, 21, rfl⟩
abbrev main_indices : Ref sig .tc := ⟨.hbm, 22, rfl⟩
abbrev main_cst_2 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Proof.TopTwo.lean ====
/-
  The two greatest entries of a row, ties broken by the lower position, and what the first two entries of a stable
  descending sort are.
-/
module

public import Idealize.ShloMosaic.Lib.SortPrefix
public import Idealize.ShloMosaic.Lib.PlanTiles.StableSort

@[expose] public section

namespace Router

open Idealize.ShloMosaic

variable {n : ℕ} {α : Type} [LinearOrder α]

/-- Position `i` holds a greatest entry of the row `l`, and no earlier position does. -/
structure IsTop (l : Fin n → α) (i : Fin n) : Prop where
  le : ∀ j, l j ≤ l i
  first : ∀ j, l j = l i → i ≤ j

/-- Position `i'` holds a greatest entry of the row `l` among the positions other than `i`, and no earlier one does. -/
structure IsNext (l : Fin n → α) (i i' : Fin n) : Prop where
  ne : i' ≠ i
  le : ∀ j, j ≠ i → l j ≤ l i'
  first : ∀ j, j ≠ i → l j = l i' → i' ≤ j

/-- Within a nonempty set of positions there is a first position of a greatest entry. -/
theorem exists_first_max (l : Fin n → α) (S : Finset (Fin n)) (hS : S.Nonempty) :
    ∃ i ∈ S, (∀ j ∈ S, l j ≤ l i) ∧ ∀ j ∈ S, l j = l i → i ≤ j := by
  obtain ⟨i0, hi0, hmax⟩ := Finset.exists_max_image S l hS
  have hT : (S.filter fun j => l j = l i0).Nonempty := ⟨i0, Finset.mem_filter.mpr ⟨hi0, rfl⟩⟩
  have hm := Finset.mem_filter.mp (Finset.min'_mem _ hT)
  refine ⟨_, hm.1, fun j hj => ?_, fun j hj e => ?_⟩
  · rw [hm.2]; exact hmax j hj
  · exact Finset.min'_le _ _ (Finset.mem_filter.mpr ⟨hj, e.trans hm.2⟩)

/-- Every nonempty row has a first greatest position. -/
theorem exists_isTop [NeZero n] (l : Fin n → α) : ∃ i, IsTop l i := by
  obtain ⟨i, -, h1, h2⟩ := exists_first_max l Finset.univ ⟨0, Finset.mem_univ _⟩
  exact ⟨i, fun j => h1 j (Finset.mem_univ _), fun j => h2 j (Finset.mem_univ _)⟩

/-- Every row of two entries or more has a first greatest position among those other than a given one. -/
theorem exists_isNext (hn : 2 ≤ n) (l : Fin n → α) (i : Fin n) : ∃ i', IsNext l i i' := by
  have hS : (Finset.univ.filter fun j : Fin n => j ≠ i).Nonempty := by
    by_cases h : i.val = 0
    · exact ⟨⟨1, hn⟩, Finset.mem_filter.mpr ⟨Finset.mem_univ _, fun e => by have := congrArg Fin.val e; simp at this; omega⟩⟩
    · exact ⟨⟨0, by omega⟩, Finset.mem_filter.mpr ⟨Finset.mem_univ _, fun e => h (congrArg Fin.val e).symm⟩⟩
  obtain ⟨i', hi', h1, h2⟩ := exists_first_max l _ hS
  exact ⟨i', (Finset.mem_filter.mp hi').2, fun j hj => h1 j (Finset.mem_filter.mpr ⟨Finset.mem_univ _, hj⟩),
    fun j hj => h2 j (Finset.mem_filter.mpr ⟨Finset.mem_univ _, hj⟩)⟩

/-- A row whose order among the positions is another row's has the same first greatest position. -/
theorem IsTop.congr {β : Type} [LinearOrder β] {l : Fin n → α} {g : Fin n → β} (h : ∀ a b, g a ≤ g b ↔ l a ≤ l b)
    {i : Fin n} (hi : IsTop l i) : IsTop g i :=
  ⟨fun j => (h j i).mpr (hi.le j), fun j e => hi.first j (le_antisymm (hi.le j) ((h i j).mp e.ge))⟩

/-- A row whose order among the positions is another row's has the same next position. -/
theorem IsNext.congr {β : Type} [LinearOrder β] {l : Fin n → α} {g : Fin n → β} (h : ∀ a b, g a ≤ g b ↔ l a ≤ l b)
    {i i' : Fin n} (hi : IsNext l i i') : IsNext g i i' :=
  ⟨hi.ne, fun j hj => (h j i').mpr (hi.le j hj),
    fun j hj e => hi.first j hj (le_antisymm ((h j i').mp e.le) ((h i' j).mp e.ge))⟩

/-- How many entries of the row are below entry `a`: a natural number that orders the positions as the entries do. -/
def rank (l : Fin n → α) (a : Fin n) : ℕ := (Finset.univ.filter fun j => l j < l a).card

/-- The number of entries below orders the positions as the entries do. -/
theorem rank_lt_iff (l : Fin n → α) (a b : Fin n) : rank l b < rank l a ↔ l b < l a := by
  have mono : ∀ p q : Fin n, l p ≤ l q → rank l p ≤ rank l q := fun p q h =>
    Finset.card_le_card fun j hj =>
      Finset.mem_filter.mpr ⟨Finset.mem_univ _, lt_of_lt_of_le (Finset.mem_filter.mp hj).2 h⟩
  constructor
  · intro h
    by_contra hc
    exact absurd h (not_lt.mpr (mono a b (not_lt.mp hc)))
  · intro h
    refine Finset.card_lt_card (Finset.ssubset_iff_subset_ne.mpr ⟨fun j hj => ?_, fun e => ?_⟩)
    · exact Finset.mem_filter.mpr ⟨Finset.mem_univ _, lt_trans (Finset.mem_filter.mp hj).2 h⟩
    · have hb : b ∈ Finset.univ.filter fun j => l j < l a := Finset.mem_filter.mpr ⟨Finset.mem_univ _, h⟩
      rw [← e] at hb
      exact lt_irrefl _ (Finset.mem_filter.mp hb).2

/-- "Greater entry first, then lower position", as a comparison of positions. -/
def lexBefore (l : Fin n → α) (a b : Fin n) : Bool := decide (l b < l a) || (decide (l a = l b) && decide (a < b))

/-- "Greater entry first, then lower position" is a strict total order on the positions. -/
theorem lexBefore_total (l : Fin n → α) : StrictTotalBefore (lexBefore l) :=
  StrictTotalBefore.of_key_then_position (fun x y : α => decide (y < x)) l (fun a => by simp)
    (fun a b c h h' => by simp only [decide_eq_true_eq] at h h' ⊢; exact h'.trans h)
    (fun a b => by
      simp only [decide_eq_true_eq]
      rcases lt_trichotomy a b with h | h | h
      · exact .inr (.inr h)
      · exact .inr (.inl h)
      · exact .inl h)

/-- The stable sort by descending entry is the sort by "greater entry first, then lower position". -/
theorem sortPositions_eq_lex (l : Fin n → α) (B : Fin n → Fin n → Bool) (hB : ∀ a b, B a b = decide (l b < l a)) :
    sortPositions n B = sortPositions n (lexBefore l) := by
  have hB' : B = fun x y => decide (rank l y < rank l x) :=
    funext fun a => funext fun b => by rw [hB, decide_eq_decide]; exact (rank_lt_iff l a b).symm
  have hp := PlanTiles.pairwise_stableSort_lex (rank l) (fun a b : Fin n => a < b) (List.finRange n) (List.pairwise_lt_finRange n)
  refine (lexBefore_total l).eq_stableSort_of_sorted (perm_stableSort B _) ?_
  rw [hB']
  refine hp.imp fun {a b} h => ?_
  unfold lexBefore
  rcases h with h | ⟨h, hab⟩
  · have h' := (rank_lt_iff l a b).mp h
    simp [h'.le, h'.ne]
  · have e : l a = l b := le_antisymm
      (not_lt.mp fun hc => absurd ((rank_lt_iff l a b).mpr hc) (by omega))
      (not_lt.mp fun hc => absurd ((rank_lt_iff l b a).mpr hc) (by omega))
    simp [e, hab.le]

/-- The first two positions of the stable descending sort are the first greatest position and the next one. -/
theorem sortedFrom_two (l : Fin n → α) (B : Fin n → Fin n → Bool) (hB : ∀ a b, B a b = decide (l b < l a)) (hn : 2 ≤ n)
    {i i' : Fin n} (h : IsTop l i) (h' : IsNext l i i') (k : Fin 2) :
    sortedFrom B (k.castLE hn) = (![i, i'] : Fin 2 → Fin n) k := by
  have e : sortedFrom B (k.castLE hn) = sortedFrom (lexBefore l) (k.castLE hn) := by
    unfold sortedFrom
    simp only [List.get_eq_getElem, sortPositions_eq_lex l B hB]
    rfl
  rw [e]
  have key : ∀ p q : Fin n, l p ≤ l q → (l p = l q → q ≤ p) → lexBefore l p q = false := fun p q hle hfst => by
    unfold lexBefore
    rcases lt_or_eq_of_le hle with hlt | heq
    · simp [hlt.le, hlt.ne]
    · simp [heq, hfst heq]
  refine (lexBefore_total l).sortedFrom_eq_of_prefix hn (![i, i']) ?_ ?_ ?_ k
  · intro a b hab
    fin_cases a <;> fin_cases b <;> simp_all [h'.ne, h'.ne.symm]
  · intro a b hab
    fin_cases a <;> fin_cases b <;> first
      | exact absurd hab (by decide)
      | exact key _ _ (h.le _) (h.first _)
  · intro a p hp
    have hpi : p ≠ i := fun e => hp 0 e.symm
    fin_cases a
    · exact key _ _ (h.le _) (h.first _)
    · exact key _ _ (h'.le p hpi) (h'.first p hpi)

end Router
-- ==== Proof.RowMath.lean ====
/-
  One row of the router's softmax on the extended reals: for finite logits, the gates are ordered as the logits, and
  the kernel's spellings of a gate (the reciprocal of the denominator, and a product with it) are the quotient.
-/
module

public import proofs.«01_k».proof.Proof.TopTwo
public import Idealize.ShloMosaic.PureOps.Ideal.Laws

@[expose] public section

noncomputable section

namespace Router

open Idealize.ShloMosaic

/-- The greatest logit of a row. -/
def rmax (l : Fin 16 → EReal) : EReal := Finset.univ.fold max ⊥ l

/-- The exponential of a logit less the greatest one. -/
def ex (l : Fin 16 → EReal) (k : Fin 16) : EReal := Ideal.exp (l k - rmax l)

/-- The softmax denominator of a row. -/
def den (l : Fin 16 → EReal) : EReal := ∑ k, ex l k

/-- The softmax gate of expert `k`. -/
def gate (l : Fin 16 → EReal) (k : Fin 16) : EReal := Ideal.div (ex l k) (den l)

/-- Every logit of the row is a real number. -/
def Finite (l : Fin 16 → EReal) : Prop := ∃ r : Fin 16 → ℝ, l = fun k => (r k : EReal)

/-- The greatest logit is the entry at the first greatest position. -/
theorem rmax_eq {l : Fin 16 → EReal} {i : Fin 16} (h : IsTop l i) : rmax l = l i :=
  le_antisymm (Finset.fold_max_le _ |>.mpr ⟨bot_le, fun j _ => h.le j⟩)
    (Finset.le_fold_max _ |>.mpr (.inr ⟨i, Finset.mem_univ _, le_refl _⟩))

/-- A finite sum of real numbers, taken as an ideal value. -/
theorem coe_total {ι : Type} (s : Finset ι) (f : ι → ℝ) : ((∑ i ∈ s, f i : ℝ) : EReal) = ∑ i ∈ s, (f i : EReal) :=
  map_sum (⟨⟨fun x : ℝ => (x : EReal), EReal.coe_zero⟩, EReal.coe_add⟩ : ℝ →+ EReal) f s

/-- A finite row in real numbers: the greatest logit, the exponentials and the denominator, which is positive. -/
theorem real_row (r : Fin 16 → ℝ) : ∃ M D : ℝ, rmax (fun k => (r k : EReal)) = M ∧ 0 < D
    ∧ (∀ k, ex (fun k => (r k : EReal)) k = (Real.exp (r k - M) : EReal)) ∧ den (fun k => (r k : EReal)) = (D : EReal) := by
  obtain ⟨i, hi⟩ := exists_isTop (fun k => (r k : EReal))
  have hM := rmax_eq hi
  have hex : ∀ k, ex (fun k => (r k : EReal)) k = (Real.exp (r k - r i) : EReal) := fun k => by
    unfold ex
    rw [hM, ← EReal.coe_sub, Ideal.exp_coe]
  refine ⟨r i, ∑ k, Real.exp (r k - r i), hM, Finset.sum_pos (fun k _ => Real.exp_pos _) ⟨0, Finset.mem_univ _⟩, hex, ?_⟩
  unfold den
  rw [Finset.sum_congr rfl fun k _ => hex k, coe_total]

/-- The gates of a finite row are real numbers: exponentials over one positive denominator. -/
theorem gate_real (r : Fin 16 → ℝ) : ∃ M D : ℝ, 0 < D ∧ rmax (fun k => (r k : EReal)) = M ∧ den (fun k => (r k : EReal)) = (D : EReal)
    ∧ (∀ k, ex (fun k => (r k : EReal)) k = (Real.exp (r k - M) : EReal))
    ∧ ∀ k, gate (fun k => (r k : EReal)) k = ((Real.exp (r k - M) * (1 / D) : ℝ) : EReal) := by
  obtain ⟨M, D, hM, hD, hex, hden⟩ := real_row r
  refine ⟨M, D, hD, hM, hden, hex, fun k => ?_⟩
  unfold gate
  rw [hden, Ideal.div_coe hD.ne', hex, ← EReal.coe_mul]

/-- The gates are ordered as the logits. -/
theorem gate_le_iff {l : Fin 16 → EReal} (hl : Finite l) (a b : Fin 16) : gate l a ≤ gate l b ↔ l a ≤ l b := by
  obtain ⟨r, rfl⟩ := hl
  obtain ⟨M, D, hD, -, -, -, hg⟩ := gate_real r
  rw [hg, hg, EReal.coe_le_coe_iff, mul_le_mul_iff_left₀ (one_div_pos.mpr hD), Real.exp_le_exp, EReal.coe_le_coe_iff]
  exact sub_le_sub_iff_right M

/-- The kernel's gate of any expert: the exponential times the reciprocal of the denominator. -/
theorem ex_mul_inv {l : Fin 16 → EReal} (hl : Finite l) (k : Fin 16) : ex l k * Ideal.div 1 (den l) = gate l k := by
  obtain ⟨r, rfl⟩ := hl
  obtain ⟨M, D, hD, -, hden, -, -⟩ := gate_real r
  unfold gate
  rw [hden, Ideal.div_coe hD.ne', Ideal.div_coe hD.ne', one_mul]

/-- The kernel's gate of the first expert: the reciprocal of the denominator. -/
theorem inv_eq_gate {l : Fin 16 → EReal} (hl : Finite l) {i : Fin 16} (h : IsTop l i) : Ideal.div 1 (den l) = gate l i := by
  rw [← ex_mul_inv hl i]
  have e : ex l i = 1 := by
    obtain ⟨r, rfl⟩ := hl
    unfold ex
    rw [rmax_eq h, ← EReal.coe_sub, sub_self, Ideal.exp_coe, Real.exp_zero, EReal.coe_one]
  rw [e, one_mul]

/-- A gate of a finite row is a real number. -/
theorem gate_finite {l : Fin 16 → EReal} (hl : Finite l) (k : Fin 16) : ∃ g : ℝ, gate l k = (g : EReal) := by
  obtain ⟨r, rfl⟩ := hl
  obtain ⟨M, D, -, -, -, -, hg⟩ := gate_real r
  exact ⟨_, hg k⟩

/-! ### The second greatest entry, by masking the first -/

/-- The row with the entry at `i` overwritten by −∞. -/
def masked (l : Fin 16 → EReal) (i : Fin 16) (k : Fin 16) : EReal := if k = i then ⊥ else l k

/-- The greatest entry of the masked row is the next entry. -/
theorem rmax_masked {l : Fin 16 → EReal} {i i' : Fin 16} (h' : IsNext l i i') :
    rmax (masked l i) = l i' := by
  refine le_antisymm (Finset.fold_max_le _ |>.mpr ⟨bot_le, fun j _ => ?_⟩)
    (Finset.le_fold_max _ |>.mpr (.inr ⟨i', Finset.mem_univ _, ?_⟩))
  · unfold masked
    split
    · exact bot_le
    · next hj => exact h'.le j hj
  · unfold masked
    rw [if_neg h'.ne]

/-- In a masked finite row the next position is the first position of the greatest entry. -/
theorem masked_isTop {l : Fin 16 → EReal} (hl : Finite l) {i i' : Fin 16} (h' : IsNext l i i') : IsTop (masked l i) i' := by
  have e' : masked l i i' = l i' := if_neg h'.ne
  refine ⟨fun j => ?_, fun j e => ?_⟩
  · rw [e']; unfold masked
    split
    · exact bot_le
    · next hj => exact h'.le j hj
  · rw [e'] at e
    by_cases hj : j = i
    · obtain ⟨r, rfl⟩ := hl
      rw [masked, if_pos hj] at e
      exact absurd e.symm (EReal.coe_ne_bot _)
    · rw [masked, if_neg hj] at e
      exact h'.first j hj e

/-! ### The position word, by a signed minimum over positions -/

/-- The signed minimum, over a row, of the position's word where the entry is the greatest and of 16 elsewhere, is the
    word of the first greatest position. -/
theorem fold_minsi_first {l : Fin 16 → EReal} {i : Fin 16} (h : IsTop l i) [Std.Commutative (IntOp.minsi (w := 32))]
    [Std.Associative (IntOp.minsi (w := 32))] (f : Fin 16 → BitVec 32)
    (hf : ∀ k, f k = if l k = l i then BitVec.ofNat 32 k.val else 16#32) :
    (Finset.univ : Finset (Fin 16)).fold IntOp.minsi 2147483647#32 f = BitVec.ofNat 32 i.val := by
  have hom : ∀ x y : BitVec 32, (IntOp.minsi x y).toInt = min x.toInt y.toInt := fun x y => by
    unfold IntOp.minsi
    simp only [BitVec.sle_eq_decide, BitVec.slt_eq_decide, decide_eq_true_eq]
    split <;> omega
  have hval : ∀ k : Fin 16, (BitVec.ofNat 32 k.val).toInt = (k.val : ℤ) := fun k => by
    have := k.isLt
    rw [BitVec.toInt_eq_toNat_cond, BitVec.toNat_ofNat]
    omega
  have hfi : ∀ k, (f k).toInt = if l k = l i then (k.val : ℤ) else 16 := fun k => by
    rw [hf]
    split
    · exact hval k
    · rfl
  apply BitVec.eq_of_toInt_eq
  rw [← Finset.fold_hom (op' := min) (m := fun x : BitVec 32 => x.toInt) hom, hval]
  refine le_antisymm ((Finset.fold_min_le _).mpr (.inr ⟨i, Finset.mem_univ _, ?_⟩)) ((Finset.le_fold_min _).mpr ⟨?_, fun k _ => ?_⟩)
  · rw [hfi, if_pos rfl]
  · have := i.isLt
    show (i.val : ℤ) ≤ 2147483647
    omega
  · rw [hfi]
    have := i.isLt
    split
    · next e => exact_mod_cast h.first k e
    · omega

end Router
-- ==== Proof.Half.lean ====
/-
  What the kernel computes from one half of a block of rows: its transposed logits `v` (expert by row), read one row
  (one column of `v`) at a time. Both halves run the same operations; the first half's payloads are restated as the
  second half's.
-/
module

public import proofs.«01_k».proof.Proof.RowMath
public import proofs.«01_k».proof.Proof.Gen.KernelIdeal.Skeleton
public import Idealize.ShloMosaic.Lib.Pointwise

@[expose] public section

noncomputable section

namespace Router

open Idealize.ShloMosaic Cert.KernelIdeal Cert.KernelIdeal.Gen

/-- The logits of row `c` of a half. -/
def col (v : FVec Ideal S16x512 .f32) (c : Fin 512) (k : Fin 16) : EReal := v (ix2 k c)

/-- The pattern 0xFF800000 is −∞. -/
theorem ofBits_neg_inf : Ideal.ofBits .f32 0xFF800000#32 = ⊥ := by simp [Ideal.ofBits, Ideal.ieee]

variable (v : FVec Ideal S16x512 .f32) (c : Fin 512)

/-- The row's greatest logit. -/
theorem pay16_at (u : Fin 1) : k0_pay16 v (ix2 u c) = rmax (col v c) := by
  pointwise [k0_pay16]
  rw [ofBits_neg_inf]
  rfl

/-- The word of the first expert's number. -/
theorem pay17_at (u : Fin 1) {i : Fin 16} (h : IsTop (col v c) i) : k0_pay17 v (ix2 u c) = BitVec.ofNat 32 i.val := by
  pointwise [k0_pay17]
  refine fold_minsi_first h _ fun k => ?_
  rw [pay16_at, rmax_eq h]
  rfl

/-- The logits with the first expert's overwritten by −∞. -/
theorem pay18_at {i : Fin 16} (h : IsTop (col v c) i) (k : Fin 16) : k0_pay18 v (ix2 k c) = masked (col v c) i k := by
  pointwise [k0_pay18]
  rw [pay17_at v c 0 h, ofBits_neg_inf]
  have e : BitVec.ofNat 32 k.val = BitVec.ofNat 32 i.val ↔ k = i := by
    constructor
    · intro e
      have := congrArg BitVec.toNat e
      simp only [BitVec.toNat_ofNat] at this
      have := k.isLt; have := i.isLt
      exact Fin.ext (by omega)
    · rintro rfl; rfl
  unfold masked Scalar.select IntOp.cmpi
  by_cases hk : k = i
  · subst hk; simp
  · simp only [if_neg hk]
    have : (BitVec.ofNat 32 k.val == BitVec.ofNat 32 i.val) = false := by
      rw [beq_eq_false_iff_ne]; exact fun h => hk (e.mp h)
    simp [this, col]

/-- The row's second greatest logit. -/
theorem pay19_at (u : Fin 1) {i i' : Fin 16} (h : IsTop (col v c) i) (h' : IsNext (col v c) i i') :
    k0_pay19 v (ix2 u c) = col v c i' := by
  unfold k0_pay19
  generalize hy : k0_pay18 v = y
  pointwise
  subst hy
  rw [ofBits_neg_inf, ← rmax_masked h']
  exact Finset.fold_congr fun k _ => pay18_at v c h k

/-- The word of the second expert's number. -/
theorem pay20_at (u : Fin 1) (hl : Finite (col v c)) {i i' : Fin 16} (h : IsTop (col v c) i) (h' : IsNext (col v c) i i') :
    k0_pay20 v (ix2 u c) = BitVec.ofNat 32 i'.val := by
  pointwise [k0_pay20]
  refine fold_minsi_first (masked_isTop hl h') _ fun k => ?_
  rw [pay19_at v c 0 h h', pay18_at v c h]
  have : masked (col v c) i i' = col v c i' := if_neg h'.ne
  rw [this]

/-- An exponential of a logit less the greatest. -/
theorem pay21_at (k : Fin 16) : k0_pay21 v (ix2 k c) = ex (col v c) k := by
  pointwise [k0_pay21]
  rw [pay16_at]
  rfl

/-- The reciprocal of the softmax denominator. -/
theorem pay22_at (u : Fin 1) : k0_pay22 v (ix2 u c) = Ideal.div 1 (den (col v c)) := by
  pointwise [k0_pay22]
  simp only [pay21_at]
  rfl

/-- The first expert's gate. -/
theorem pay23_at_zero (hl : Finite (col v c)) {i : Fin 16} (h : IsTop (col v c) i) : k0_pay23 v (ix2 0 c) = gate (col v c) i := by
  have e : k0_pay23 v (ix2 0 c) = k0_pay22 v (ix2 0 c) := by
    unfold k0_pay23
    generalize k0_pay22 v = r
    generalize k0_pay19 v = b
    generalize k0_pay16 v = a
    pointwise
  rw [e, pay22_at, inv_eq_gate hl h]

/-- The second expert's gate. -/
theorem pay23_at_one (hl : Finite (col v c)) {i i' : Fin 16} (h : IsTop (col v c) i) (h' : IsNext (col v c) i i') :
    k0_pay23 v (ix2 1 c) = gate (col v c) i' := by
  have e : k0_pay23 v (ix2 1 c) = Ideal.exp (k0_pay19 v (ix2 0 c) - k0_pay16 v (ix2 0 c)) * k0_pay22 v (ix2 0 c) := by
    unfold k0_pay23
    generalize k0_pay22 v = r
    generalize k0_pay19 v = b
    generalize k0_pay16 v = a
    pointwise
  rw [e, pay19_at v c 0 h h', pay16_at, pay22_at]
  exact ex_mul_inv hl i'

/-- The two experts' numbers, one row each. -/
theorem pay1_at_zero (a b : IVec S1x512 32) : k0_pay1 a b (ix2 0 c) = a (ix2 0 c) := by
  pointwise [k0_pay1]

/-- The two experts' numbers, one row each: the second. -/
theorem pay1_at_one (a b : IVec S1x512 32) : k0_pay1 a b (ix2 1 c) = b (ix2 0 c) := by
  pointwise [k0_pay1]

/-- A half's share of the mean gates of expert `k`: the sum of its rows' gates over the number of all rows, the
    kernel's factor 1/8192. -/
def share (v : FVec Ideal S16x512 .f32) (k : Fin 16) : EReal := (∑ c, gate (col v c) k) * Ideal.ofBits .f32 0x39000000#32

/-- The kernel's sum over a half's rows of the exponentials times the reciprocal denominators is the sum of the gates. -/
theorem sum_eq_gates (hl : ∀ c, Finite (col v c)) (k : Fin 16) :
    ∑ c, k0_pay21 v (ix2 k c) * k0_pay22 v (ix2 0 c) = ∑ c, gate (col v c) k :=
  Finset.sum_congr rfl fun c _ => by rw [pay21_at, pay22_at, ex_mul_inv (hl c)]

/-- The first half's share. -/
theorem pay15_at (hl : ∀ c, Finite (col v c)) (k : Fin 16) (u : Fin 1) :
    k0_pay15 (k0_pay21 v) (k0_pay22 v) (ix2 k u) = share v k := by
  pointwise [k0_pay15]
  unfold share
  rw [← sum_eq_gates v hl]

/-- What is added to the running means at a point: both halves' shares. -/
theorem pay3_at (a : FVec Ideal S16x1 .f32) (hl : ∀ c, Finite (col v c)) (b : FVec Ideal S1x16 .f32) (u : Fin 1) (k : Fin 16) :
    k0_pay3 a (k0_pay21 v) (k0_pay22 v) b (ix2 u k) = b (ix2 u k) + (a (ix2 k 0) + share v k) := by
  pointwise [k0_pay3]
  unfold share
  rw [← sum_eq_gates v hl]

/-- The zero means a first point starts from. -/
theorem pay2_at (u : Fin 1) (k : Fin 16) : (k0_pay2 : FVec Ideal S1x16 .f32) (ix2 u k) = 0 := by
  pointwise [k0_pay2]

/-- A half's logits: entry (expert, row) is the product sum of the row with the expert's column of weights. -/
theorem pay5_at (x : Vec Ideal S512x2048 .f32) (w : Vec Ideal S2048x16 .f32) (k : Fin 16) (c : Fin 512) :
    col (k0_pay5 x w) c k = ∑ d : Fin 2048, x (ix2 c d) * w (ix2 d k) := by
  unfold col
  pointwise [k0_pay5]

/-! ### The first half's payloads are the second half's at its own logits -/

section Same
variable (x : Vec Ideal S512x2048 .f32) (w : Vec Ideal S2048x16 .f32)

/-- The first half's logits are the second half's product at the first half's rows. -/
theorem pay4_eq : k0_pay4 x w = k0_pay5 x w := rfl
/-- The first half's first experts' words are the second half's at the first half's logits. -/
theorem pay7_eq : k0_pay7 x w = k0_pay17 (k0_pay5 x w) := rfl
/-- The first half's second experts' words are the second half's at the first half's logits. -/
theorem pay10_eq : k0_pay10 x w = k0_pay20 (k0_pay5 x w) := rfl
/-- The first half's exponentials are the second half's at the first half's logits. -/
theorem pay11_eq : k0_pay11 x w = k0_pay21 (k0_pay5 x w) := rfl
/-- The first half's reciprocal denominators are the second half's at the first half's logits. -/
theorem pay12_eq : k0_pay12 x w = k0_pay22 (k0_pay5 x w) := rfl
/-- The first half's gates are the second half's at the first half's logits. -/
theorem pay13_eq : k0_pay13 x w = k0_pay23 (k0_pay5 x w) := rfl
/-- The two halves join their expert numbers alike. -/
theorem pay14_eq (a b : IVec S1x512 32) : k0_pay14 a b = k0_pay1 a b := rfl
end Same

end Router
-- ==== Proof.Block.lean ====
/-
  What one grid point leaves in the three output blocks, as a function of the rows of the point's block of `x`: in
  columns 0–511 the first half's two experts and gates, in columns 512–1023 the second half's, and in the running
  means what was there plus both halves' shares.
-/
module
public import proofs.«01_k».proof.Proof.Half
public import proofs.«01_k».proof.Proof.Gen.KernelIdeal.Frame
public import Idealize.ShloMosaic.Lib.Pipeline.Value
public import Idealize.ShloMosaic.Lib.Tactic

@[expose] public section
noncomputable section

namespace Router
open Idealize.ShloMosaic Idealize.ShloMosaic.TcCoe Idealize.SL.Sem Cert.KernelIdeal Cert.KernelIdeal.Gen

/-- The two experts of a row of logits: the first greatest and the first greatest of the others. -/
def pick (l : Fin 16 → EReal) : Fin 2 → Fin 16 :=
  ![(exists_isTop l).choose, (exists_isNext (by decide) l (exists_isTop l).choose).choose]

/-- The first pick is the first largest value. -/
theorem pick_top (l : Fin 16 → EReal) : IsTop l (pick l 0) := (exists_isTop l).choose_spec

/-- The second pick is the first largest of the others. -/
theorem pick_next (l : Fin 16 → EReal) : IsNext l (pick l 0) (pick l 1) :=
  (exists_isNext (by decide) l (exists_isTop l).choose).choose_spec

/-- The logits of row `r`: the product sums of the row with the sixteen columns of weights. -/
def logits {n : Nat} (x : (⟨2, ![n, 2048]⟩ : Shape).Idx → EReal) (w : S2048x16.Idx → EReal) (r : Fin n) : Fin 16 → EReal :=
  fun k => ∑ d : Fin 2048, x (ix2 r d) * w (ix2 d k)

/-- The two rows of experts a half writes. -/
theorem half_index (v : FVec Ideal S16x512 .f32) (e : Fin 2) (c : Fin 512) (hl : Finite (col v c)) :
    k0_pay1 (k0_pay17 v) (k0_pay20 v) (ix2 e c) = BitVec.ofNat 32 (pick (col v c) e).val := by
  match e with
  | 0 => rw [show (ix2 (0 : Fin 2) c) = ix2 0 c from rfl, pay1_at_zero, pay17_at v c 0 (pick_top _)]
  | 1 => rw [pay1_at_one, pay20_at v c 0 hl (pick_top _) (pick_next _)]

/-- The two rows of gates a half writes. -/
theorem half_gate (v : FVec Ideal S16x512 .f32) (e : Fin 2) (c : Fin 512) (hl : Finite (col v c)) :
    k0_pay23 v (ix2 e c) = gate (col v c) (pick (col v c) e) := by
  match e with
  | 0 => exact pay23_at_zero v c hl (pick_top _)
  | 1 => exact pay23_at_one v c hl (pick_top _) (pick_next _)

/-- The row of a block that is row `c` of its first half, -/
def lo (c : Fin 512) : Fin 1024 := ⟨c.val, by omega⟩
/-- and the one that is row `c` of its second half. -/
def hi (c : Fin 512) : Fin 1024 := ⟨512 + c.val, by omega⟩

section Point
variable (x : Vec Ideal S1024x2048 .f32) (w : Vec Ideal S2048x16 .f32)

/-- The first half's logits, from the block's rows 0–511. -/
abbrev first : FVec Ideal S16x512 .f32 :=
  k0_pay5 (View.ld x (Rect.unit ![0, 0] ![512, 2048] inb_S1024x2048_S512x2048_0_0)) w
/-- The second half's logits, from the block's rows 512–1023. -/
abbrev second : FVec Ideal S16x512 .f32 :=
  k0_pay5 (View.ld x (Rect.unit ![512, 0] ![512, 2048] inb_S1024x2048_S512x2048_512_0)) w

/-- A column of the first half's transposed scores is a row's logits. -/
theorem col_first (c : Fin 512) : col (first x w) c = logits x w (lo c) := by
  funext k
  rw [pay5_at]
  refine Finset.sum_congr rfl fun d _ => ?_
  congr 1
  refine congrArg x (funext fun a => Fin.ext ?_)
  match a with
  | ⟨0, _⟩ => show 0 + 1 * c.val = c.val; omega
  | ⟨1, _⟩ => show 0 + 1 * d.val = d.val; omega

/-- A column of the second half's transposed scores is a row's logits. -/
theorem col_second (c : Fin 512) : col (second x w) c = logits x w (hi c) := by
  funext k
  rw [pay5_at]
  refine Finset.sum_congr rfl fun d _ => ?_
  congr 1
  refine congrArg x (funext fun a => Fin.ext ?_)
  match a with
  | ⟨0, _⟩ => show 512 + 1 * c.val = 512 + c.val; omega
  | ⟨1, _⟩ => show 0 + 1 * d.val = d.val; omega

/-- The point's block of experts: entry (which, row) is the number of the row's first or second expert. -/
def blockIndex : Vec Ideal S2x1024 .i32 := fun j => BitVec.ofNat 32 (pick (logits x w (j 1)) (j 0)).val

/-- The point's block of gates. -/
def blockGate : Vec Ideal S2x1024 .f32 := fun j => gate (logits x w (j 1)) (pick (logits x w (j 1)) (j 0))

/-- What the point adds to the running mean of each expert: each half's gates summed and scaled, then added. -/
def blockShare (k : Fin 16) : EReal :=
  (∑ c, gate (logits x w (lo c)) k) * Ideal.ofBits .f32 0x39000000#32
    + (∑ c, gate (logits x w (hi c)) k) * Ideal.ofBits .f32 0x39000000#32

/-- An index of rank two is its two coordinates. -/
theorem idx_cases {n0 n1 : Nat} (z : (⟨2, ![n0, n1]⟩ : Shape).Idx) : ∃ (a : Fin n0) (b : Fin n1), z = ix2 a b := by
  refine ⟨z 0, z 1, funext fun a => ?_⟩
  match a with
  | ⟨0, _⟩ => rfl
  | ⟨1, _⟩ => rfl

/-- Every position of a two-row block lies under one of the two half stores. -/
theorem halves_cover (y : S2x1024.Idx) :
    y ∈ (Rect.unit (s := S2x1024) ![0, 512] ![2, 512] inb_S2x1024_S2x512_0_512).set
      ∨ y ∈ (Rect.unit (s := S2x1024) ![0, 0] ![2, 512] inb_S2x1024_S2x512_0_0).set := by
  have h0 : (y 0).val < 2 := (y 0).isLt
  have h1 : (y 1).val < 1024 := (y 1).isLt
  by_cases h : (y 1).val < 512
  · right
    rw [Rect.mem_set_unit]
    intro a
    match a with
    | ⟨0, _⟩ => exact ⟨Nat.zero_le _, by show (y 0).val < 0 + 2; omega⟩
    | ⟨1, _⟩ => exact ⟨Nat.zero_le _, by show (y 1).val < 0 + 512; omega⟩
  · left
    rw [Rect.mem_set_unit]
    intro a
    match a with
    | ⟨0, _⟩ => exact ⟨Nat.zero_le _, by show (y 0).val < 0 + 2; omega⟩
    | ⟨1, _⟩ => exact ⟨by show 512 ≤ (y 1).val; omega, by show (y 1).val < 512 + 512; omega⟩

/-- Two half stores that each hold their half of one block leave that block. -/
theorem two_halves {e : EltTy} (G : S2x1024.Idx → Elt Ideal e) (p q : S2x512.Idx → Elt Ideal e)
    (hp : ∀ (r : Fin 2) (c : Fin 512), p (ix2 r c) = G (ix2 r (lo c)))
    (hq : ∀ (r : Fin 2) (c : Fin 512), q (ix2 r c) = G (ix2 r (hi c))) :
    View.canon (Val := Elt Ideal) (s := S2x1024) (e := e)
      [⟨Rect.unit ![0, 512] ![2, 512] inb_S2x1024_S2x512_0_512, q⟩,
       ⟨Rect.unit ![0, 0] ![2, 512] inb_S2x1024_S2x512_0_0, p⟩] = G := by
  funext y
  refine View.canon_apply_of_pieces G _ ?_ y ?_
  · have hq' : ∀ z : S2x512.Idx, q z = G ((Rect.unit (s := S2x1024) ![0, 512] ![2, 512] inb_S2x1024_S2x512_0_512).emb z) := by
      intro z
      obtain ⟨r, k, rfl⟩ := idx_cases z
      rw [hq]
      refine congrArg G (funext fun a => Fin.ext ?_)
      match a with
      | ⟨0, _⟩ => show r.val = 0 + 1 * r.val; omega
      | ⟨1, _⟩ => show 512 + k.val = 512 + 1 * k.val; omega
    have hp' : ∀ z : S2x512.Idx, p z = G ((Rect.unit (s := S2x1024) ![0, 0] ![2, 512] inb_S2x1024_S2x512_0_0).emb z) := by
      intro z
      obtain ⟨r, k, rfl⟩ := idx_cases z
      rw [hp]
      refine congrArg G (funext fun a => Fin.ext ?_)
      match a with
      | ⟨0, _⟩ => show r.val = 0 + 1 * r.val; omega
      | ⟨1, _⟩ => show k.val = 0 + 1 * k.val; omega
    intro piece hm
    rcases List.mem_cons.mp hm with rfl | hm
    · exact hq'
    · rcases List.mem_singleton.mp hm with rfl
      exact hp'
  · rcases halves_cover y with h | h
    · exact ⟨_, List.mem_cons_self, h⟩
    · exact ⟨_, List.mem_cons_of_mem _ List.mem_cons_self, h⟩

/-- The literal pair of zeros is the zero offset. -/
theorem zero2 : (![0, 0] : Fin 2 → Nat) = fun _ => 0 := funext fun a => by fin_cases a <;> rfl

/-- The means' payload: what was there plus the point's shares. -/
theorem means_at (hl : ∀ r, Finite (logits x w r)) (b : FVec Ideal S1x16 .f32) :
    k0_pay3 (k0_pay15 (k0_pay21 (first x w)) (k0_pay22 (first x w))) (k0_pay21 (second x w)) (k0_pay22 (second x w)) b
      = fun j => b j + blockShare x w (j 1) := by
  funext j
  have e1 : ∀ c, Finite (col (first x w) c) := fun c => by rw [col_first]; exact hl _
  have e2 : ∀ c, Finite (col (second x w) c) := fun c => by rw [col_second]; exact hl _
  obtain ⟨u, k, rfl⟩ := idx_cases j
  rw [pay3_at _ _ e2, pay15_at _ e1]
  unfold share blockShare
  simp only [col_first, col_second]
  rfl

section Cases
variable (c : Dev nD) (i : grid0.Coords) (a1 : Memref sig .tc .vmem S1024x2048 .f32) (h1 : a1.IsWhole)
  (a2 : Memref sig .tc .vmem S2048x16 .f32) (h2 : a2.IsWhole) (a3 : Memref sig .tc .vmem S2x1024 .i32) (h3 : a3.IsWhole)
  (a4 : Memref sig .tc .vmem S2x1024 .f32) (h4 : a4.IsWhole) (a5 : Memref sig .tc .vmem S1x16 .f32) (h5 : a5.IsWhole)
  (hl : ∀ r, Finite (logits x w r))

include hl

/-- The experts' two stores leave the block of experts. -/
theorem index_pieces :
    View.canon (Val := Elt Ideal) (s := S2x1024) (e := .i32)
      [⟨Rect.unit ![0, 512] ![2, 512] inb_S2x1024_S2x512_0_512, k0_pay1 (k0_pay17 (second x w)) (k0_pay20 (second x w))⟩,
       ⟨Rect.unit ![0, 0] ![2, 512] inb_S2x1024_S2x512_0_0, k0_pay1 (k0_pay17 (first x w)) (k0_pay20 (first x w))⟩]
      = blockIndex x w := by
  refine two_halves _ _ _ (fun r c => ?_) fun r c => ?_
  · rw [half_index _ r c (by rw [col_first]; exact hl _), col_first]; rfl
  · rw [half_index _ r c (by rw [col_second]; exact hl _), col_second]; rfl

/-- The gates' two stores leave the block of gates. -/
theorem gate_pieces :
    View.canon (Val := Elt Ideal) (s := S2x1024) (e := .f32)
      [⟨Rect.unit ![0, 512] ![2, 512] inb_S2x1024_S2x512_0_512, k0_pay23 (second x w)⟩,
       ⟨Rect.unit ![0, 0] ![2, 512] inb_S2x1024_S2x512_0_0, k0_pay23 (first x w)⟩]
      = blockGate x w := by
  refine two_halves _ _ _ (fun r c => ?_) fun r c => ?_
  · rw [half_gate _ r c (by rw [col_first]; exact hl _), col_first]; rfl
  · rw [half_gate _ r c (by rw [col_second]; exact hl _), col_second]; rfl

/-- The first point's block of experts. -/
theorem out_A_2 (hc : cond0_0 i) : out0_A_2 c i a1 h1 a2 h2 a3 h3 a4 h4 a5 h5 hc x w = blockIndex x w := by
  unfold out0_A_2
  rw [View.read_writes_eq_canon _ _ _ (cover0_A_2 c i a1 h1 a2 h2 a3 h3 a4 h4 a5 h5 hc x w)]
  unfold kernelRun0_A
  dsimp only
  sl_unfold_words
  simp only [View.readAt_eq_ld, h1.read_unread, h2.read_unread, pay7_eq, pay10_eq, pay14_eq, View.ld_unit_zero (S := S2048x16) zero2]
  exact index_pieces x w hl

/-- A later point's block of experts. -/
theorem out_B_2 (hc : ¬cond0_0 i) (xo : Vec Ideal S1x16 .f32) :
    out0_B_2 c i a1 h1 a2 h2 a3 h3 a4 h4 a5 h5 hc x w xo = blockIndex x w := by
  unfold out0_B_2
  rw [View.read_writes_eq_canon _ _ _ (cover0_B_2 c i a1 h1 a2 h2 a3 h3 a4 h4 a5 h5 hc x w xo)]
  unfold kernelRun0_B
  dsimp only
  sl_unfold_words
  simp only [View.readAt_eq_ld, h1.read_unread, h2.read_unread, pay7_eq, pay10_eq, pay14_eq, View.ld_unit_zero (S := S2048x16) zero2]
  exact index_pieces x w hl

/-- The first point's block of gates. -/
theorem out_A_3 (hc : cond0_0 i) : out0_A_3 c i a1 h1 a2 h2 a3 h3 a4 h4 a5 h5 hc x w = blockGate x w := by
  unfold out0_A_3
  rw [View.read_writes_eq_canon _ _ _ (cover0_A_3 c i a1 h1 a2 h2 a3 h3 a4 h4 a5 h5 hc x w)]
  unfold kernelRun0_A
  dsimp only
  sl_unfold_words
  simp only [View.readAt_eq_ld, h1.read_unread, h2.read_unread, pay13_eq, View.ld_unit_zero (S := S2048x16) zero2]
  exact gate_pieces x w hl

/-- A later point's block of gates. -/
theorem out_B_3 (hc : ¬cond0_0 i) (xo : Vec Ideal S1x16 .f32) :
    out0_B_3 c i a1 h1 a2 h2 a3 h3 a4 h4 a5 h5 hc x w xo = blockGate x w := by
  unfold out0_B_3
  rw [View.read_writes_eq_canon _ _ _ (cover0_B_3 c i a1 h1 a2 h2 a3 h3 a4 h4 a5 h5 hc x w xo)]
  unfold kernelRun0_B
  dsimp only
  sl_unfold_words
  simp only [View.readAt_eq_ld, h1.read_unread, h2.read_unread, pay13_eq, View.ld_unit_zero (S := S2048x16) zero2]
  exact gate_pieces x w hl

/-- The first point's running means: its shares, from zero. -/
theorem out_A_4 (hc : cond0_0 i) :
    out0_A_4 c i a1 h1 a2 h2 a3 h3 a4 h4 a5 h5 hc x w = fun j => 0 + blockShare x w (j 1) := by
  unfold out0_A_4
  rw [View.read_writes_eq_canon _ _ _ (cover0_A_4 c i a1 h1 a2 h2 a3 h3 a4 h4 a5 h5 hc x w)]
  unfold kernelRun0_A
  dsimp only
  sl_unfold_words
  rw [View.canon_cons_unit_zero (S := S1x16) zero2, View.readCov_unit_zero (S := S1x16) _ zero2]
  simp only [View.readAt_eq_ld, h1.read_unread, h2.read_unread, pay11_eq, pay12_eq, View.ld_unit_zero (S := S2048x16) zero2]
  refine (means_at x w hl _).trans (funext fun j => ?_)
  obtain ⟨u, k, rfl⟩ := idx_cases j
  rw [pay2_at]

/-- A later point's running means: its shares added. -/
theorem out_B_4 (hc : ¬cond0_0 i) (xo : Vec Ideal S1x16 .f32) :
    out0_B_4 c i a1 h1 a2 h2 a3 h3 a4 h4 a5 h5 hc x w xo = fun j => xo j + blockShare x w (j 1) := by
  unfold out0_B_4
  rw [View.read_writes_eq_canon _ _ _ (cover0_B_4 c i a1 h1 a2 h2 a3 h3 a4 h4 a5 h5 hc x w xo)]
  unfold kernelRun0_B
  dsimp only
  sl_unfold_words
  rw [View.canon_unit_zero (S := S1x16) zero2]
  simp only [View.readAt_eq_ld, h1.read_unread, h2.read_unread, h5.read_unread, pay11_eq, pay12_eq,
    View.ld_unit_zero (S := S2048x16) zero2, View.ld_unit_zero (S := S1x16) zero2]
  exact means_at x w hl xo

end Cases
end Point
end Router
-- ==== Proof.Precond.lean ====
/-
  What the precondition says of the arguments: every entry of the rows and of the weights is a real number and every bias
  is zero; so every row's logits are real numbers.
-/
module
public import proofs.«01_k».proof.Proof.Block
public import proofs.«01_k».proof.Proof.Gen.Pre_finite_no_bias
public import Idealize.ShloMosaic.Lib.ReduceAll

@[expose] public section
noncomputable section

namespace Router
open Idealize.ShloMosaic Cert.Pre_finite_no_bias

/-- An ideal value whose magnitude is below the infinite one is a real number. -/
theorem real_of_abs (a : EReal) (h : Ideal.cmp .olt (max a (-a)) (Ideal.ofBits .f32 0x7F800000#32) = 1#1) :
    ∃ r : ℝ, a = r := by
  have e : Ideal.ofBits .f32 0x7F800000#32 = ⊤ := by simp [Ideal.ofBits, Ideal.ieee]
  rw [e] at h
  have h' : max a (-a) < ⊤ := by
    by_contra hn
    have : Ideal.cmp .olt (max a (-a)) ⊤ = 0#1 := by
      show BitVec.ofBool (decide _) = _
      rw [decide_eq_false hn]; rfl
    rw [this] at h
    exact absurd h (by decide)
  refine ⟨a.toReal, (EReal.coe_toReal ?_ ?_).symm⟩
  · exact (lt_of_le_of_lt (le_max_left _ _) h').ne
  · rintro rfl
    exact absurd (lt_of_le_of_lt (le_max_right _ _) h') (by simp)

/-- An ideal value that compares equal to the zero word is zero. -/
theorem zero_of_eq (a : EReal) (h : Ideal.cmp .oeq a (Ideal.ofBits .f32 0x00000000#32) = 1#1) : a = 0 := by
  rw [Ideal.ofBits_zero_f32] at h
  by_contra hn
  have : Ideal.cmp .oeq a 0 = 0#1 := by
    show BitVec.ofBool (decide _) = _
    rw [decide_eq_false hn]; rfl
  rw [this] at h
  exact absurd h (by decide)

/-- The precondition, entry by entry. -/
theorem pre_entries [Facts] (x : S8192x2048.Idx → EReal) (w : S2048x16.Idx → EReal) (b : S16.Idx → EReal)
    (h : fn (F := Ideal) x w b = fun _ => 1#1) :
    (∀ i, ∃ r : ℝ, x i = r) ∧ (∀ i, ∃ r : ℝ, w i = r) ∧ b = fun _ => 0 := by
  haveI : Subsingleton S_.Idx := ⟨fun _ _ => funext fun a => a.elim0⟩
  have h0 := congrFun h (fun a => a.elim0)
  dsimp only [fn] at h0
  obtain ⟨h1, hb⟩ := IntOp.andi_eq_one.1 h0
  obtain ⟨hx, hw⟩ := IntOp.andi_eq_one.1 h1
  refine ⟨fun i => real_of_abs _ ?_, fun i => real_of_abs _ ?_, funext fun i => zero_of_eq _ ?_⟩
  · exact Host.reduce_andi_all _ _ _ _ _ hx i
  · exact Host.reduce_andi_all _ _ _ _ _ hw i
  · exact Host.reduce_andi_all _ _ _ _ _ hb i

/-- Rows and weights of real numbers have logits of real numbers. -/
theorem finite_logits {n : ℕ} (x : (⟨2, ![n, 2048]⟩ : Shape).Idx → EReal) (w : Cert.KernelIdeal.S2048x16.Idx → EReal)
    (hx : ∀ i, ∃ r : ℝ, x i = r) (hw : ∀ i, ∃ r : ℝ, w i = r) (r : Fin n) : Finite (logits x w r) := by
  choose f hf using hx
  choose g hg using hw
  refine ⟨fun k => ∑ d : Fin 2048, f (ix2 r d) * g (ix2 d k), funext fun k => ?_⟩
  unfold logits
  simp only [hf, hg, ← EReal.coe_mul]
  rw [coe_total]

end Router
-- ==== Proof.TopRows.lean ====
/-
  The first entries of an array's rows sorted by a comparison, each with its position, for an array of any size.
-/
module
public import Idealize.ShloMosaic.Lib.Pointwise

@[expose] public section

namespace Router
open Idealize.ShloMosaic

variable {α : Type} {N K M : ℕ}

/-- A row addressed by its position along the second axis. -/
theorem along_row (n : Fin N) (e k : Fin K) : (ix2 n e).along (1 : Fin 2) k = ix2 n k := by
  funext a
  unfold Shape.Idx.along
  match a with
  | ⟨0, _⟩ => exact Function.update_of_ne (show (0 : Fin 2) ≠ 1 by decide) _ _
  | ⟨1, _⟩ => exact Function.update_self ..

/-- The index a leading slice reads. -/
theorem lead_idx (hM : M ≤ K) (h : (⟨2, ![N, K]⟩ : Shape).Slices (fun _ => 0) ⟨2, ![N, M]⟩) (n : Fin N) (e : Fin M)
    (z : (⟨2, ![N, K]⟩ : Shape).Idx → α) :
    extractStridedSlice (s := ⟨2, ![N, K]⟩) ⟨2, ![N, M]⟩ (fun _ => 0) z h (ix2 n e) = z (ix2 n (e.castLE hM)) := by
  unfold extractStridedSlice
  refine congrArg z (funext fun a => Fin.ext ?_)
  match a with
  | ⟨0, _⟩ => exact Nat.zero_add _
  | ⟨1, _⟩ => exact Nat.zero_add _

/-- The order of row `n`: its positions sorted by the comparison of their entries. -/
def rowOrder (gt : α → α → BitVec 1) (y : (⟨2, ![N, K]⟩ : Shape).Idx → α) (n : Fin N) : Fin K → Fin K :=
  sortedFrom fun k k' => gt (y (ix2 n k)) (y (ix2 n k')) == 1#1

/-- The first entries of sorted rows: the entry at each place, -/
theorem top_value (hM : M ≤ K) (gt : α → α → BitVec 1) (y : (⟨2, ![N, K]⟩ : Shape).Idx → α)
    (h : (⟨2, ![N, K]⟩ : Shape).Slices (fun _ => 0) ⟨2, ![N, M]⟩) (n : Fin N) (e : Fin M) :
    (Host.topK ⟨2, ![N, M]⟩ 1 gt y h).1 (ix2 n e) = y (ix2 n (rowOrder gt y n (e.castLE hM))) := by
  unfold Host.topK
  dsimp only
  rw [lead_idx hM]
  unfold Host.sort2
  rw [dif_pos (show 1 < (⟨2, ![N, K]⟩ : Shape).rank from Nat.one_lt_two)]
  refine (congrArg y (along_row n (e.castLE hM) _)).trans (congrArg (fun f => y (ix2 n (sortedFrom f (e.castLE hM)))) ?_)
  funext k k'
  rw [← along_row n (e.castLE hM) k, ← along_row n (e.castLE hM) k']
  rfl

/-- and its position in the row. -/
theorem top_index (hM : M ≤ K) (gt : α → α → BitVec 1) (y : (⟨2, ![N, K]⟩ : Shape).Idx → α)
    (h : (⟨2, ![N, K]⟩ : Shape).Slices (fun _ => 0) ⟨2, ![N, M]⟩) (n : Fin N) (e : Fin M) :
    (Host.topK ⟨2, ![N, M]⟩ 1 gt y h).2 (ix2 n e) = BitVec.ofNat 32 (rowOrder gt y n (e.castLE hM)).val := by
  unfold Host.topK
  dsimp only
  rw [lead_idx hM]
  unfold Host.sort2
  rw [dif_pos (show 1 < (⟨2, ![N, K]⟩ : Shape).rank from Nat.one_lt_two)]
  dsimp only
  rw [dif_pos (show 1 < (⟨2, ![N, K]⟩ : Shape).rank from Nat.one_lt_two)]
  refine (congrArg (iotaInDim (⟨2, ![N, K]⟩ : Shape) 32 (1 : Fin 2)) (along_row n (e.castLE hM) _)).trans
    (congrArg (fun f => BitVec.ofNat 32 (sortedFrom f (e.castLE hM)).val) ?_)
  funext k k'
  rw [← along_row n (e.castLE hM) k, ← along_row n (e.castLE hM) k']
  rfl

end Router
-- ==== Proof.RefRead.lean ====
/-
  The reference's values, entry by entry: its softmax is the row's gates, and the two first of its sorted gates are the
  gates of the row's two experts.
-/
module
public import proofs.«01_k».proof.Proof.Block
public import proofs.«01_k».proof.Proof.TopRows
public import proofs.«01_k».proof.Proof.Gen.ReferenceIdeal.Read

@[expose] public section
noncomputable section

namespace Router
open Idealize.ShloMosaic Idealize.ShloMosaic.TcCoe Idealize.SL.Sem Cert.ReferenceIdeal Cert.ReferenceIdeal.Gen Cert.ReferenceIdeal.Read

variable (x : S8192x2048.Idx → EReal) (w : S2048x16.Idx → EReal) (b : S16.Idx → EReal)

/-- With the biases zero the reference's logits are the kernel's. -/
theorem ref_logits (hb : b = fun _ => 0) (n : Fin 8192) (k : Fin 16) :
    val_main_v3 (F := Ideal) x w b (ix2 n k) = logits x w n k := by
  subst hb
  rw [val_main_v3_apply, val_main_v0_apply, val_main_v2_apply, val_main_v1_apply]
  rw [Ideal.addf_def, add_zero]
  refine Finset.sum_congr rfl fun d _ => ?_
  congr 1
  · refine congrArg x (funext fun a => ?_)
    match a with
    | ⟨0, _⟩ => rfl
    | ⟨1, _⟩ => rfl
  · refine congrArg w (funext fun a => ?_)
    match a with
    | ⟨0, _⟩ => rfl
    | ⟨1, _⟩ => rfl

/-- The row's greatest logit. -/
theorem ref_max (hb : b = fun _ => 0) (n : Fin 8192) : val_main_v4 (F := Ideal) x w b (ix1 n) = rmax (logits x w n) := by
  unfold val_main_v4 val_main_cst
  have h : ∀ k, val_main_v3 (F := Ideal) x w b (ix2 n k) = logits x w n k := ref_logits x w b hb n
  generalize val_main_v3 (F := Ideal) x w b = y at h
  pointwise
  rw [ofBits_neg_inf]
  exact Finset.fold_congr fun k _ => h k

/-- An exponential of a logit less the greatest. -/
theorem ref_ex (hb : b = fun _ => 0) (n : Fin 8192) (k : Fin 16) :
    val_main_v10 (F := Ideal) x w b (ix2 n k) = ex (logits x w n) k := by
  rw [val_main_v10_apply, val_main_v9_apply, val_main_v8_apply, val_main_v7_apply, val_main_v6_apply, ref_logits x w b hb,
    val_main_v5_apply, val_main_cst_0_apply]
  have e : idx_main_v7 (idx_main_v8 (ix2 n k)) = ix1 n := by
    funext a
    match a with
    | ⟨0, _⟩ => rfl
  rw [e, ref_max x w b hb]
  show Ideal.exp (logits x w n k - max (Ideal.ofBits .f32 0xFF800000#32) (rmax (logits x w n))) = _
  rw [ofBits_neg_inf, max_eq_right bot_le]
  rfl

/-- The row's softmax denominator. -/
theorem ref_den (hb : b = fun _ => 0) (n : Fin 8192) : val_main_v11 (F := Ideal) x w b (ix1 n) = den (logits x w n) := by
  rw [val_main_v11_apply, val_main_cst_1_apply]
  show Ideal.ofBits .f32 0x00000000#32 + _ = _
  rw [Ideal.ofBits_zero_f32, zero_add]
  refine Finset.sum_congr rfl fun k _ => ?_
  have e : idx_main_v11 (ix1 n) k = ix2 n k := by
    funext a
    match a with
    | ⟨0, _⟩ => rfl
    | ⟨1, _⟩ => rfl
  rw [e, ref_ex x w b hb]

/-- The reference's softmax is the row's gates. -/
theorem ref_gate (hb : b = fun _ => 0) (n : Fin 8192) (k : Fin 16) :
    val_main_v14 (F := Ideal) x w b (ix2 n k) = gate (logits x w n) k := by
  rw [val_main_v14_apply, ref_ex x w b hb, val_main_v13_apply, val_main_v12_apply]
  have e : idx_main_v12 (idx_main_v13 (ix2 n k)) = ix1 n := by
    funext a
    match a with
    | ⟨0, _⟩ => rfl
  rw [e, ref_den x w b hb]
  rfl

/-- The two first positions of a row's sorted gates are the row's two experts. -/
theorem sorted_gates (l : Fin 16 → EReal) (hl : Finite l) (B : Fin 16 → Fin 16 → Bool)
    (hB : ∀ k k', B k k' = decide (gate l k' < gate l k)) (e : Fin 2) : sortedFrom B (e.castLE (by decide)) = pick l e := by
  have h := sortedFrom_two (gate l) B hB (by decide) ((pick_top l).congr (gate_le_iff hl)) ((pick_next l).congr (gate_le_iff hl)) e
  rw [h]
  rcases Fin.exists_fin_two.mp ⟨e, rfl⟩ with rfl | rfl
  · rfl
  · rfl

/-- A comparison of two ideal values by "greater", in the total order of floats, is the order's. -/
theorem gt_eq (a c : EReal) : (FloatOps.cmpfTotal (F := Ideal) (φ := .f32) .gt a c == 1#1) = decide (c < a) := by
  rw [Ideal.cmpfTotal_def]
  show (BitVec.ofBool (decide (c < a)) == 1#1) = _
  cases decide (c < a) <;> rfl

/-- The reference's order of a row's experts begins with the row's two. -/
theorem ref_order (y : S8192x16.Idx → EReal) (l : Fin 16 → EReal) (hl : Finite l) (n : Fin 8192)
    (h : ∀ k, y (ix2 n k) = gate l k) (e : Fin 2) :
    rowOrder (FloatOps.cmpfTotal (F := Ideal) (φ := .f32) .gt) y n (e.castLE (by decide)) = pick l e :=
  sorted_gates l hl _ (fun k k' => by rw [gt_eq, h, h]) e

/-- The reference's first result. -/
theorem ref_index (hb : b = fun _ => 0) (n : Fin 8192) (hl : Finite (logits x w n)) (e : Fin 2) :
    val_main_indices (F := Ideal) x w b (ix2 n e) = BitVec.ofNat 32 (pick (logits x w n) e).val := by
  unfold val_main_indices
  rw [top_index (by decide), ref_order _ _ hl n (ref_gate x w b hb n)]

/-- The reference's second result. -/
theorem ref_value (hb : b = fun _ => 0) (n : Fin 8192) (hl : Finite (logits x w n)) (e : Fin 2) :
    val_main_values (F := Ideal) x w b (ix2 n e) = gate (logits x w n) (pick (logits x w n) e) := by
  unfold val_main_values
  rw [top_value (by decide), ref_order _ _ hl n (ref_gate x w b hb n), ref_gate x w b hb]

/-- The reference's third result: the sum of all rows' gates over their number. -/
theorem ref_mean (hb : b = fun _ => 0) (k : Fin 16) :
    val_main_v17 (F := Ideal) x w b (ix1 k)
      = Ideal.div (∑ n : Fin 8192, gate (logits x w n) k) (Ideal.ofBits .f32 0x46000000#32) := by
  rw [val_main_v17_apply, val_main_v16_apply, val_main_cst_3_apply, val_main_v15_apply, val_main_cst_2_apply]
  show Ideal.div (Ideal.ofBits .f32 0x00000000#32 + _) _ = _
  rw [Ideal.ofBits_zero_f32, zero_add]
  refine congrArg (fun s => Ideal.div s (Ideal.ofBits .f32 0x46000000#32)) (Finset.sum_congr rfl fun n _ => ?_)
  have e : idx_main_v15 (ix1 k) n = ix2 n k := by
    funext a
    match a with
    | ⟨0, _⟩ => rfl
    | ⟨1, _⟩ => rfl
  rw [e, ref_gate x w b hb]

end Router
-- ==== Proof.Arrays.lean ====
/-
  The kernel's run, read as values of its arguments: the experts and gates of every row, each row's from the point
  whose block holds it, and the means as the sum of the eight points' shares; then the lines after the kernel's
  region, two transposes and a reshape.
-/
module
public import proofs.«01_k».proof.Proof.Block
public import Idealize.ShloMosaic.Lib.StableHlo.Run
public import Idealize.ShloMosaic.Lib.Quiescent

@[expose] public section
noncomputable section

namespace Router
open Idealize.ShloMosaic Idealize.ShloMosaic.TcCoe Idealize.SL.Sem Cert.KernelIdeal Cert.KernelIdeal.Gen
open Idealize.ShloMosaic.Pipeline (Dat)

/-- The row of `x` that is row `r` of point `t`'s block. -/
def row (t : Fin 8) (r : Fin 1024) : Fin 8192 := ⟨1024 * t.val + r.val, by omega⟩

/-- What point `t` adds to expert `k`'s mean. -/
def pointShare (x : S8192x2048.Idx → EReal) (w : S2048x16.Idx → EReal) (t : Fin 8) (k : Fin 16) : EReal :=
  (∑ c, gate (logits x w (row t (lo c))) k) * Ideal.ofBits .f32 0x39000000#32
    + (∑ c, gate (logits x w (row t (hi c))) k) * Ideal.ofBits .f32 0x39000000#32

/-- The kernel's means after point `n`: the shares added in point order, from zero. -/
def meansTo (x : S8192x2048.Idx → EReal) (w : S2048x16.Idx → EReal) (k : Fin 16) : (n : ℕ) → n < 8 → EReal
  | 0, h => 0 + pointShare x w ⟨0, h⟩ k
  | n + 1, h => meansTo x w k n (Nat.lt_of_succ_lt h) + pointShare x w ⟨n + 1, h⟩ k

/-- The experts' array, two rows of 8192. -/
def allIndex (x : S8192x2048.Idx → EReal) (w : S2048x16.Idx → EReal) : S2x8192.Idx → BitVec 32 :=
  fun j => BitVec.ofNat 32 (pick (logits x w (j 1)) (j 0)).val

/-- The gates' array, two rows of 8192. -/
def allGate (x : S8192x2048.Idx → EReal) (w : S2048x16.Idx → EReal) : S2x8192.Idx → EReal :=
  fun j => gate (logits x w (j 1)) (pick (logits x w (j 1)) (j 0))

/-- The means' array, one row of 16. -/
def allMean (x : S8192x2048.Idx → EReal) (w : S2048x16.Idx → EReal) : S1x16.Idx → EReal :=
  fun j => meansTo x w (j 1) 7 (by decide)

variable (m : (ℓ : Loc nD τ sig) → Buf (Elt Ideal) ℓ) (c : Dev nD)

/-- The rows as the launch holds them. -/
abbrev argX : S8192x2048.Idx → EReal := m ((c.tc : Thread nD τ).loc main_arg0)
/-- The weights as the launch holds them. -/
abbrev argW : S2048x16.Idx → EReal := m ((c.tc : Thread nD τ).loc main_arg1)

/-- A grid point as one of eight. -/
def pt (t : Fin cfg0.N) : Fin 8 := ⟨t.val, lt_of_lt_of_eq t.isLt N_0⟩

/-- The rows' window at a point: the point's own block of rows, all columns. -/
theorem index0 (t : Fin cfg0.N) : win0_0.index t 0 = t.val ∧ win0_0.index t 1 = 0 := by
  rcases fin_N0 t with rfl | rfl | rfl | rfl | rfl | rfl | rfl | rfl <;> decide

/-- The weights' window is the whole array at every point. -/
theorem index1 (t : Fin cfg0.N) : win0_1.index t 0 = 0 ∧ win0_1.index t 1 = 0 := by
  rcases fin_N0 t with rfl | rfl | rfl | rfl | rfl | rfl | rfl | rfl <;> decide

/-- The expert numbers' window at a point: the point's own block of columns. -/
theorem index2 (t : Fin cfg0.N) : win0_2.index t 0 = 0 ∧ win0_2.index t 1 = t.val := by
  rcases fin_N0 t with rfl | rfl | rfl | rfl | rfl | rfl | rfl | rfl <;> decide

/-- The gates' window at a point: the point's own block of columns. -/
theorem index3 (t : Fin cfg0.N) : win0_3.index t 0 = 0 ∧ win0_3.index t 1 = t.val := by
  rcases fin_N0 t with rfl | rfl | rfl | rfl | rfl | rfl | rfl | rfl <;> decide

/-- Point `t`'s block of `x` at row `r`. -/
theorem block_x (t : Fin cfg0.N) (r : Fin 1024) (d : Fin 2048) :
    (iblk m c 0 t : Vec Ideal S1024x2048 .f32) (ix2 r d) = argX m c (ix2 (row (pt t) r) d) := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = 1024 * t.val + r.val; rw [(index0 t).1]; omega
  | ⟨1, _⟩ => show win0_0.index t 1 * 2048 + 1 * d.val = d.val; rw [(index0 t).2]; omega

/-- Every point's block of weights is all of them. -/
theorem block_w (t : Fin cfg0.N) (d : Fin 2048) (k : Fin 16) :
    (iblk m c 1 t : Vec Ideal S2048x16 .f32) (ix2 d k) = argW m c (ix2 d k) := by
  unfold iblk
  rw [View.read_apply]
  show V m c main_arg1 _ = m (c.tc.loc main_arg1) _
  unfold V
  congr 1
  funext a
  apply Fin.ext
  match a with
  | ⟨0, _⟩ => show win0_1.index t 0 * 2048 + 1 * d.val = d.val; rw [(index1 t).1]; omega
  | ⟨1, _⟩ => show win0_1.index t 1 * 16 + 1 * k.val = k.val; rw [(index1 t).2]; omega

/-- So the block's rows have the logits of the rows of `x`. -/
theorem block_logits (t : Fin cfg0.N) (r : Fin 1024) :
    logits (iblk m c 0 t : Vec Ideal S1024x2048 .f32) (iblk m c 1 t : Vec Ideal S2048x16 .f32) r
      = logits (argX m c) (argW m c) (row (pt t) r) := by
  funext k
  refine Finset.sum_congr rfl fun d _ => ?_
  rw [block_x, block_w]

/-- A point's addition to the means, computed from its block, is its share of the whole arrays'. -/
theorem block_share (t : Fin cfg0.N) (k : Fin 16) :
    blockShare (iblk m c 0 t : Vec Ideal S1024x2048 .f32) (iblk m c 1 t : Vec Ideal S2048x16 .f32) k
      = pointShare (argX m c) (argW m c) (pt t) k := by
  unfold blockShare pointShare
  simp only [block_logits]

variable (hl : ∀ r, Finite (logits (argX m c) (argW m c) r))
include hl

/-- After point `t` the experts' block is that of the point's rows. -/
theorem outs_index (t : Fin cfg0.N) : (outsAt0 m c t.val t.isLt).1 = blockIndex (iblk m c 0 t) (iblk m c 1 t) := by
  have hb : ∀ r, Finite (logits (iblk m c 0 t : Vec Ideal S1024x2048 .f32) (iblk m c 1 t : Vec Ideal S2048x16 .f32) r) :=
    fun r => by rw [block_logits]; exact hl _
  by_cases h : t.val % 8 = 0
  · rw [outsAt0_A m c t h]; dsimp only; rw [out_A_2 (hl := hb)]
  · rw [outsAt0_B m c t h]; dsimp only; rw [out_B_2 (hl := hb)]

/-- After point `t` the gates' block is that of the point's rows. -/
theorem outs_gate (t : Fin cfg0.N) : (outsAt0 m c t.val t.isLt).2.1 = blockGate (iblk m c 0 t) (iblk m c 1 t) := by
  have hb : ∀ r, Finite (logits (iblk m c 0 t : Vec Ideal S1024x2048 .f32) (iblk m c 1 t : Vec Ideal S2048x16 .f32) r) :=
    fun r => by rw [block_logits]; exact hl _
  by_cases h : t.val % 8 = 0
  · rw [outsAt0_A m c t h]; dsimp only; rw [out_A_3 (hl := hb)]
  · rw [outsAt0_B m c t h]; dsimp only; rw [out_B_3 (hl := hb)]

/-- After point `n` the means' block is the shares of the points so far, by induction on the point. -/
theorem outs_mean : ∀ (n : ℕ) (h : n < cfg0.N),
    (outsAt0 m c n h).2.2 = fun j : S1x16.Idx => meansTo (argX m c) (argW m c) (j 1) n (lt_of_lt_of_eq h N_0)
  | 0, h => by
    have hb : ∀ r, Finite (logits (iblk m c 0 ⟨0, h⟩ : Vec Ideal S1024x2048 .f32) (iblk m c 1 ⟨0, h⟩ : Vec Ideal S2048x16 .f32) r) :=
      fun r => by rw [block_logits]; exact hl _
    have e := congrArg (fun p => p.2.2) (outsAt0_A m c ⟨0, h⟩ rfl)
    dsimp only at e
    rw [out_A_4 (hl := hb)] at e
    refine e.trans (funext fun j => ?_)
    obtain ⟨u, k, rfl⟩ := idx_cases j
    exact congrArg (0 + ·) (block_share m c ⟨0, h⟩ k)
  | n + 1, h => by
    have hN : cfg0.N = 8 := N_0
    have hb : ∀ r, Finite (logits (iblk m c 0 ⟨n + 1, h⟩ : Vec Ideal S1024x2048 .f32) (iblk m c 1 ⟨n + 1, h⟩ : Vec Ideal S2048x16 .f32) r) :=
      fun r => by rw [block_logits]; exact hl _
    have hB : ¬(⟨n + 1, h⟩ : Fin cfg0.N).val % 8 = 0 := by dsimp only; omega
    have e := congrArg (fun p => p.2.2) (outsAt0_B m c ⟨n + 1, h⟩ hB)
    dsimp only at e
    rw [out_B_4 (hl := hb)] at e
    refine e.trans (funext fun j => ?_)
    obtain ⟨u, k, rfl⟩ := idx_cases j
    exact congrArg₂ (· + ·) (congrFun (outs_mean n (Nat.lt_of_succ_lt h)) (ix2 u k)) (block_share m c ⟨n + 1, h⟩ k)

/-- Point `t` writes back, of the experts, the point's rows. -/
theorem flushed_index (t : Fin cfg0.N) :
    (dats m 0 c).flushed 2 t = ((cfg0.win 2).blk t).view.read (Elt Ideal) (allIndex (argX m c) (argW m c)) := by
  show (cfg0.win 2).cut (grid0.coords t) ((dats m 0 c).after 2 t) = _
  rw [after0_2, outs_index m c hl]
  funext j
  rw [View.read_apply]
  obtain ⟨e, r, rfl⟩ := idx_cases (n0 := 2) (n1 := 1024) j
  have hi : ((cfg0.win 2).blk t).view.emb (ix2 e r) = (ix2 e (row (pt t) r) : S2x8192.Idx) := by
    funext a
    apply Fin.ext
    match a with
    | ⟨0, _⟩ => show win0_2.index t 0 * 2 + 1 * e.val = e.val; rw [(index2 t).1]; omega
    | ⟨1, _⟩ => show win0_2.index t 1 * 1024 + 1 * r.val = 1024 * t.val + r.val; rw [(index2 t).2]; omega
  refine Eq.trans ?_ (congrArg (allIndex (argX m c) (argW m c)) hi).symm
  show BitVec.ofNat 32 (pick (logits (iblk m c 0 t : Vec Ideal S1024x2048 .f32) (iblk m c 1 t : Vec Ideal S2048x16 .f32) r) e).val = _
  rw [block_logits]
  rfl

/-- Point `t` writes back, of the gates, the point's rows. -/
theorem flushed_gate (t : Fin cfg0.N) :
    (dats m 0 c).flushed 3 t = ((cfg0.win 3).blk t).view.read (Elt Ideal) (allGate (argX m c) (argW m c)) := by
  show (cfg0.win 3).cut (grid0.coords t) ((dats m 0 c).after 3 t) = _
  rw [after0_3, outs_gate m c hl]
  funext j
  rw [View.read_apply]
  obtain ⟨e, r, rfl⟩ := idx_cases (n0 := 2) (n1 := 1024) j
  have hi : ((cfg0.win 3).blk t).view.emb (ix2 e r) = (ix2 e (row (pt t) r) : S2x8192.Idx) := by
    funext a
    apply Fin.ext
    match a with
    | ⟨0, _⟩ => show win0_3.index t 0 * 2 + 1 * e.val = e.val; rw [(index3 t).1]; omega
    | ⟨1, _⟩ => show win0_3.index t 1 * 1024 + 1 * r.val = 1024 * t.val + r.val; rw [(index3 t).2]; omega
  refine Eq.trans ?_ (congrArg (allGate (argX m c) (argW m c)) hi).symm
  show gate (logits (iblk m c 0 t : Vec Ideal S1024x2048 .f32) (iblk m c 1 t : Vec Ideal S2048x16 .f32) r)
    (pick (logits (iblk m c 0 t : Vec Ideal S1024x2048 .f32) (iblk m c 1 t : Vec Ideal S2048x16 .f32) r) e) = _
  rw [block_logits]
  rfl

/-- The last point writes back the means. -/
theorem flushed_mean (t : Fin cfg0.N) (hf : (cfg0.win 4).flush t = true) :
    (dats m 0 c).flushed 4 t = ((cfg0.win 4).blk t).view.read (Elt Ideal) (allMean (argX m c) (argW m c)) := by
  have hN : cfg0.N = 8 := N_0
  have h7 : t.val = 7 := by have := (flush0_4 t).mp hf; have := t.isLt; omega
  obtain rfl : t = t0_7 := Fin.ext h7
  show (cfg0.win 4).cut (grid0.coords t0_7) ((dats m 0 c).after 4 t0_7) = _
  rw [after0_4, outs_mean m c hl]
  have hz' : (fun a => win0_4.index t0_7 a * main_v0_2.ty.shape.size a) = fun _ => 0 := funext fun a => by fin_cases a <;> decide
  exact (Memref.read_access_unit_zero (Elt Ideal) main_v0_2 hz' (fun a => by rw [congrFun hz' a]; simp)
    (allMean (argX m c) (argW m c))).symm

/-- The experts' array when the region ends: every row's experts. -/
theorem array_index : (dats m 0 c).arrAt 2 cfg0.N = allIndex (argX m c) (argW m c) :=
  (dats m 0 c).arrAt_eq_of_cover 2 _ (fun t _ => flushed_index m c hl t) fun i => by
    have h0 : (i 0 : Nat) < 2 := (i 0).isLt
    have h1 : (i 1 : Nat) < 8192 := (i 1).isLt
    have ht : (i 1 : Nat) / 1024 < cfg0.N := by rw [show cfg0.N = 8 from N_0]; omega
    refine ⟨⟨(i 1 : Nat) / 1024, ht⟩, flush0_2 _, ?_⟩
    show i ∈ ((View.whole main_v0_0).slice (win0_2.rect ⟨(i 1 : Nat) / 1024, ht⟩)).set
    rw [View.set_slice_whole, Rect.mem_set_unit]
    intro a
    have hi := index2 ⟨(i 1 : Nat) / 1024, ht⟩
    match a with
    | ⟨0, _⟩ => show win0_2.index ⟨(i 1 : Nat) / 1024, ht⟩ 0 * 2 ≤ (i 0 : Nat) ∧ (i 0 : Nat) < win0_2.index ⟨(i 1 : Nat) / 1024, ht⟩ 0 * 2 + 2
                rw [hi.1]; omega
    | ⟨1, _⟩ => show win0_2.index ⟨(i 1 : Nat) / 1024, ht⟩ 1 * 1024 ≤ (i 1 : Nat) ∧ (i 1 : Nat) < win0_2.index ⟨(i 1 : Nat) / 1024, ht⟩ 1 * 1024 + 1024
                rw [hi.2]; dsimp only; omega

/-- The gates' array when the region ends: every row's two gates. -/
theorem array_gate : (dats m 0 c).arrAt 3 cfg0.N = allGate (argX m c) (argW m c) :=
  (dats m 0 c).arrAt_eq_of_cover 3 _ (fun t _ => flushed_gate m c hl t) fun i => by
    have h0 : (i 0 : Nat) < 2 := (i 0).isLt
    have h1 : (i 1 : Nat) < 8192 := (i 1).isLt
    have ht : (i 1 : Nat) / 1024 < cfg0.N := by rw [show cfg0.N = 8 from N_0]; omega
    refine ⟨⟨(i 1 : Nat) / 1024, ht⟩, flush0_3 _, ?_⟩
    show i ∈ ((View.whole main_v0_1).slice (win0_3.rect ⟨(i 1 : Nat) / 1024, ht⟩)).set
    rw [View.set_slice_whole, Rect.mem_set_unit]
    intro a
    have hi := index3 ⟨(i 1 : Nat) / 1024, ht⟩
    match a with
    | ⟨0, _⟩ => show win0_3.index ⟨(i 1 : Nat) / 1024, ht⟩ 0 * 2 ≤ (i 0 : Nat) ∧ (i 0 : Nat) < win0_3.index ⟨(i 1 : Nat) / 1024, ht⟩ 0 * 2 + 2
                rw [hi.1]; omega
    | ⟨1, _⟩ => show win0_3.index ⟨(i 1 : Nat) / 1024, ht⟩ 1 * 1024 ≤ (i 1 : Nat) ∧ (i 1 : Nat) < win0_3.index ⟨(i 1 : Nat) / 1024, ht⟩ 1 * 1024 + 1024
                rw [hi.2]; dsimp only; omega

/-- The means' array when the region ends: the eight shares' sum. -/
theorem array_mean : (dats m 0 c).arrAt 4 cfg0.N = allMean (argX m c) (argW m c) :=
  (dats m 0 c).arrAt_eq_of_cover 4 _ (flushed_mean m c hl) fun i => by
    have h0 : (i 0 : Nat) < 1 := (i 0).isLt
    have h1 : (i 1 : Nat) < 16 := (i 1).isLt
    refine ⟨t0_7, (flush0_4 t0_7).mpr rfl, ?_⟩
    show i ∈ ((View.whole main_v0_2).slice (win0_4.rect t0_7)).set
    rw [View.set_slice_whole, Rect.mem_set_unit]
    intro a
    match a with
    | ⟨0, _⟩ => show win0_4.index t0_7 0 * 1 ≤ (i 0 : Nat) ∧ (i 0 : Nat) < win0_4.index t0_7 0 * 1 + 1
                rw [show win0_4.index t0_7 0 = 0 from by decide +kernel]; omega
    | ⟨1, _⟩ => show win0_4.index t0_7 1 * 16 ≤ (i 1 : Nat) ∧ (i 1 : Nat) < win0_4.index t0_7 1 * 16 + 16
                rw [show win0_4.index t0_7 1 = 0 from by decide +kernel]; omega

end Router
-- ==== Proof.KernelRun.lean ====
/-
  What the kernel's three results hold when it returns: the experts' and the gates' arrays transposed, the means as a
  vector of sixteen.
-/
module
public import proofs.«01_k».proof.Proof.Arrays

@[expose] public section
noncomputable section

namespace Router
open Idealize.ShloMosaic Idealize.ShloMosaic.TcCoe Idealize.SL.Sem Cert.KernelIdeal Cert.KernelIdeal.Gen
open Idealize.ShloMosaic.StableHlo
open Idealize.ShloMosaic.Pipeline (Dat)

/-- The windows' arrays are different buffers. -/
theorem arrays_distinct : Function.Injective (Pipeline.arrRef spec0) := by decide

/-- The first result: entry (row, which) is the number of the row's first or second expert. -/
def resultIndex (x : S8192x2048.Idx → EReal) (w : S2048x16.Idx → EReal) : S8192x2.Idx → BitVec 32 :=
  fun j => BitVec.ofNat 32 (pick (logits x w (j 0)) (j 1)).val

/-- The second result: entry (row, which) is the gate of the row's first or second expert. -/
def resultGate (x : S8192x2048.Idx → EReal) (w : S2048x16.Idx → EReal) : S8192x2.Idx → EReal :=
  fun j => gate (logits x w (j 0)) (pick (logits x w (j 0)) (j 1))

/-- The third result: the means as the kernel sums them. -/
def resultMean (x : S8192x2048.Idx → EReal) (w : S2048x16.Idx → EReal) : S16.Idx → EReal :=
  fun j => meansTo x w (j 0) 7 (by decide)

/-- The host's transpose of the expert numbers' array is the first result. -/
theorem transpose_index (x : S8192x2048.Idx → EReal) (w : S2048x16.Idx → EReal) :
    transpose S8192x2 [1, 0] (allIndex x w) transposes_S2x8192_S8192x2_1_0 = resultIndex x w := by
  funext j
  obtain ⟨r, e, rfl⟩ := idx_cases j
  pointwise
  rfl

/-- The host's transpose of the gates' array is the second result. -/
theorem transpose_gate (x : S8192x2048.Idx → EReal) (w : S2048x16.Idx → EReal) :
    transpose S8192x2 [1, 0] (allGate x w) transposes_S2x8192_S8192x2_1_0 = resultGate x w := by
  funext j
  obtain ⟨r, e, rfl⟩ := idx_cases j
  pointwise
  rfl

/-- The host's reshape of the means' array is the third result. -/
theorem reshape_mean (x : S8192x2048.Idx → EReal) (w : S2048x16.Idx → EReal) :
    shapeCast S16 (allMean x w) shapeCasts_S1x16_S16 = resultMean x w := by
  funext j
  obtain ⟨k, rfl⟩ : ∃ k : Fin 16, j = ix1 k := ⟨j 0, eq_ix1 j⟩
  pointwise
  rfl

variable (m : (ℓ : Loc nD τ sig) → Buf (Elt Ideal) ℓ) (c : Dev nD)
  (hl : ∀ r, Finite (logits (argX m c) (argW m c) r))
include hl

/-- The lines after the region leave the first result transposed. -/
theorem tail_index : Pipeline.afterTail₀ cfgs (dats m) 0 (V0 m) [hostOps1] c main_v1 = resultIndex (argX m c) (argW m c) := by
  have e := Pipeline.withArrays_arr spec0 arrays_distinct c (V0 m c) (fun w => (dats m 0 c).arrAt w cfg0.N) 2
  rw [← transpose_index, ← array_index m c hl, ← e]
  unfold Pipeline.afterTail₀
  simp only [hostOps1, List.flatten_cons, List.flatten_nil, List.append_nil]
  after_results

/-- The second result likewise. -/
theorem tail_gate : Pipeline.afterTail₀ cfgs (dats m) 0 (V0 m) [hostOps1] c main_v2 = resultGate (argX m c) (argW m c) := by
  have e := Pipeline.withArrays_arr spec0 arrays_distinct c (V0 m c) (fun w => (dats m 0 c).arrAt w cfg0.N) 3
  rw [← transpose_gate, ← array_gate m c hl, ← e]
  unfold Pipeline.afterTail₀
  simp only [hostOps1, List.flatten_cons, List.flatten_nil, List.append_nil]
  after_results

/-- The third result as a vector. -/
theorem tail_mean : Pipeline.afterTail₀ cfgs (dats m) 0 (V0 m) [hostOps1] c main_v3 = resultMean (argX m c) (argW m c) := by
  have e := Pipeline.withArrays_arr spec0 arrays_distinct c (V0 m c) (fun w => (dats m 0 c).arrAt w cfg0.N) 4
  rw [← reshape_mean, ← array_mean m c hl, ← e]
  unfold Pipeline.afterTail₀
  simp only [hostOps1, List.flatten_cons, List.flatten_nil, List.append_nil]
  after_results
  rfl

omit hl in
/-- The kernel's run: its three results as functions of the launch's rows and weights, its arguments unchanged. -/
theorem kernel_run (ρ : Dev nD → PrngReg) (hall : ∀ c r, Finite (logits (argX m c) (argW m c) r)) :
    θ_run defs (onTc (τ := τ) (main (F := Ideal))) ⟨m, fun _ => 0, ρ⟩ (fun r => ∀ c : Dev nD,
      r.2.mem ((c.tc : Thread nD τ).loc main_v1) = resultIndex (argX m c) (argW m c)
      ∧ r.2.mem ((c.tc : Thread nD τ).loc main_v2) = resultGate (argX m c) (argW m c)
      ∧ r.2.mem ((c.tc : Thread nD τ).loc main_v3) = resultMean (argX m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h.1 c).2 main_v1 (Pipeline.mem_restRefs_of main_v1 (by decide) (by decide))).trans (tail_index m c (hall c)),
       ((h.1 c).2 main_v2 (Pipeline.mem_restRefs_of main_v2 (by decide) (by decide))).trans (tail_gate m c (hall c)),
       ((h.1 c).2 main_v3 (Pipeline.mem_restRefs_of main_v3 (by decide) (by decide))).trans (tail_mean m c (hall c)),
       h.2 c⟩)
    (θ_run_and (run_main m ρ) (unchanged m ρ))

end Router
-- ==== Proof.Mean.lean ====
/-
  The mean of the gates: the kernel's eight points' shares, each half summed and scaled by 1/8192, add up to the sum of
  all 8192 rows' gates divided by 8192.
-/
module
public import proofs.«01_k».proof.Proof.KernelRun

@[expose] public section
noncomputable section

namespace Router
open Idealize.ShloMosaic

/-- The kernel's factor is 1/8192 exactly. -/
theorem factor_eq : Ideal.ofBits .f32 0x39000000#32 = (((1 : ℝ) / 8192 : ℝ) : EReal) := by
  simp [Ideal.ofBits, Ideal.ieee, -EReal.coe_mul]; norm_num

/-- The reference's divisor is 8192 exactly. -/
theorem divisor_eq : Ideal.ofBits .f32 0x46000000#32 = ((8192 : ℝ) : EReal) := by
  simp [Ideal.ofBits, Ideal.ieee, -EReal.coe_mul]; norm_num

/-- A sum over all rows, by point, half and row of the half. -/
theorem sum_rows (g : Fin 8192 → ℝ) :
    ∑ n, g n = ∑ t : Fin 8, ((∑ c, g (row t (lo c))) + ∑ c, g (row t (hi c))) := by
  have e1 : ∑ n, g n = ∑ p : Fin 8 × Fin 1024, g (row p.1 p.2) := by
    refine (Fintype.sum_equiv (finProdFinEquiv (m := 8) (n := 1024)) _ _ fun p => ?_).symm
    refine congrArg g (Fin.ext ?_)
    show 1024 * p.1.val + p.2.val = p.2.val + 1024 * p.1.val
    omega
  rw [e1, Fintype.sum_prod_type]
  refine Finset.sum_congr rfl fun t _ => ?_
  refine (Fin.sum_univ_add (a := 512) (b := 512) fun r => g (row t r)).trans ?_
  rfl

/-- The kernel's means are the reference's. -/
theorem mean_eq (x : Cert.KernelIdeal.S8192x2048.Idx → EReal) (w : Cert.KernelIdeal.S2048x16.Idx → EReal)
    (hl : ∀ n, Finite (logits x w n)) (k : Fin 16) :
    meansTo x w k 7 (by decide) = Ideal.div (∑ n : Fin 8192, gate (logits x w n) k) (Ideal.ofBits .f32 0x46000000#32) := by
  choose g hg using fun n => gate_finite (hl n) k
  have h7 : meansTo x w k 7 (by decide) = ∑ t : Fin 8, pointShare x w t k := by
    rw [Fin.sum_univ_eight]
    simp only [meansTo, zero_add]
    rfl
  have hp : ∀ t, pointShare x w t k
      = (((∑ c, g (row t (lo c))) + ∑ c, g (row t (hi c))) * (1 / 8192) : ℝ) := fun t => by
    unfold pointShare
    simp only [hg, factor_eq]
    rw [← coe_total, ← coe_total, ← EReal.coe_mul, ← EReal.coe_mul, ← EReal.coe_add]
    congr 1
    ring
  rw [h7, divisor_eq, Ideal.div_coe (by norm_num)]
  simp only [hp, hg]
  rw [← coe_total, ← coe_total, ← EReal.coe_mul, sum_rows g, ← Finset.sum_mul]

end Router
-- ==== Proof.Results.lean ====
/-
  The reference's three results, as whole arrays, are the kernel's, once the rows' logits are real and the biases are zero.
-/
module
public import proofs.«01_k».proof.Proof.RefRead
public import proofs.«01_k».proof.Proof.Mean

@[expose] public section
noncomputable section

namespace Router
open Idealize.ShloMosaic Cert.ReferenceIdeal Cert.ReferenceIdeal.Read

variable (x : S8192x2048.Idx → EReal) (w : S2048x16.Idx → EReal) (b : S16.Idx → EReal)

/-- The expert numbers agree. -/
theorem same_index (hb : b = fun _ => 0) (hl : ∀ n, Finite (logits x w n)) :
    val_main_indices (F := Ideal) x w b = resultIndex x w := by
  funext j
  obtain ⟨n, e, rfl⟩ := idx_cases (n0 := 8192) (n1 := 2) j
  exact ref_index x w b hb n (hl n) e

/-- The gates agree. -/
theorem same_gate (hb : b = fun _ => 0) (hl : ∀ n, Finite (logits x w n)) :
    val_main_values (F := Ideal) x w b = resultGate x w := by
  funext j
  obtain ⟨n, e, rfl⟩ := idx_cases (n0 := 8192) (n1 := 2) j
  exact ref_value x w b hb n (hl n) e

/-- The means agree. -/
theorem same_mean (hb : b = fun _ => 0) (hl : ∀ n, Finite (logits x w n)) :
    val_main_v17 (F := Ideal) x w b = resultMean x w := by
  funext j
  obtain ⟨k, rfl⟩ : ∃ k : Fin 16, j = ix1 k := ⟨j 0, eq_ix1 j⟩
  exact (ref_mean x w b hb k).trans (mean_eq x w hl k).symm

end Router
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_no_bias
public import proofs.«01_k».proof.Proof.Gen.ReferenceIdeal.Run
public import proofs.«01_k».proof.Proof.Gen.ReferenceIdeal.Read
public import proofs.«01_k».proof.Proof.Precond
public import proofs.«01_k».proof.Proof.Results
public import Idealize.ShloMosaic.Adequacy
public import Idealize.ShloMosaic.Init

@[expose] public section

noncomputable section

namespace Cert.Proof

open Idealize.ShloMosaic Idealize.SL.Sem Router

/-- The reference runs and leaves its arguments alone; it declares no semaphore, so every counter ends at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2))
        ∧ r.2.sem = fun _ => 0) :=
  (θ_run Cert.ReferenceIdeal.defs _ _).mono
    (fun r h => ⟨fun c => (h c).2.2.2, sem_eq_zero_of_no_sems (by decide) r.2⟩)
    (Cert.ReferenceIdeal.Value.run (F := Ideal) m ρ)

/-- Kernel and reference end with equal results: expert numbers, gates and means. -/
theorem same_results : Cert.algebraic_KernelIdeal_ReferenceIdeal_pre_finite_no_bias := by
  intro m ρ m' ρ' hpre hagree
  have ent := fun c => pre_entries _ _ _ (hpre c)
  have hl : ∀ c r, Finite (logits (argX m c) (argW m c) r) := fun c r => finite_logits _ _ (ent c).1 (ent c).2.1 r
  refine ⟨fun c => resultIndex (argX m c) (argW m c), fun c => resultGate (argX m c) (argW m c),
    fun c => resultMean (argX m c) (argW m c), kernel_run m ρ hl,
    (θ_run Cert.ReferenceIdeal.defs _ _).mono (fun r h c => ?_) (Cert.ReferenceIdeal.Value.run (F := Ideal) m' ρ')⟩
  obtain ⟨h0, h1, h2, h3⟩ := h c
  rw [Cert.ReferenceIdeal.Read.val_main_indices_eq, (hagree c).1, (hagree c).2.1, (hagree c).2.2] at h0
  rw [Cert.ReferenceIdeal.Read.val_main_values_eq, (hagree c).1, (hagree c).2.1, (hagree c).2.2] at h1
  rw [Cert.ReferenceIdeal.Read.val_main_v17_eq, (hagree c).1, (hagree c).2.1, (hagree c).2.2] at h2
  exact ⟨h0.trans (same_index _ _ _ (ent c).2.2 (hl c)), h1.trans (same_gate _ _ _ (ent c).2.2 (hl c)),
    h2.trans (same_mean _ _ _ (ent c).2.2 (hl c)), h3⟩

/-- The claims: the frames, the idealization, and the equality of the three results. -/
theorem claim : Cert.Claim :=
  ⟨Cert.Kernel.Gen.facts, Cert.KernelIdeal.Gen.facts, Cert.ReferenceIdeal.Gen.facts, Cert.Pre_finite_no_bias.Gen.facts,
    fun m ρ _ => Cert.Kernel.Gen.frame m ρ, fun m ρ _ => Cert.KernelIdeal.Gen.frame m ρ,
    fun m ρ _ => Cert.KernelIdeal.Gen.frame m ρ, fun m ρ _ => reference_frame m ρ, fun m ρ _ => reference_frame m ρ,
    trivial, same_results⟩

end Cert.Proof

end
